-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_entries_finite [hPre_entries_finite : Cert.Pre_entries_finite.Facts] (m : (ℓ : Loc Cert.KernelIdeal.nD Cert.KernelIdeal.τ Cert.KernelIdeal.sig) → Buf (Elt Ideal) ℓ) : Prop :=
  ∀ c : Dev Cert.KernelIdeal.nD,
    (Cert.Pre_entries_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_entries_finite [hPre_entries_finite : Cert.Pre_entries_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_entries_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_entries_finite [hKernelIdeal : Cert.KernelIdeal.Facts] [hPre_entries_finite : Cert.Pre_entries_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_entries_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_entries_finite [hReferenceIdeal : Cert.ReferenceIdeal.Facts] [hPre_entries_finite : Cert.Pre_entries_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_entries_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_entries_finite [hKernelIdeal : Cert.KernelIdeal.Facts] [hReferenceIdeal : Cert.ReferenceIdeal.Facts] [hPre_entries_finite : Cert.Pre_entries_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_entries_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_entries_finite : Cert.Pre_entries_finite.Facts),
    quiescent_Kernel (hKernel := hKernel)
    ∧ quiescent_KernelIdeal (hKernelIdeal := hKernelIdeal)
    ∧ quiescent_KernelIdeal_pre_entries_finite (hKernelIdeal := hKernelIdeal) (hPre_entries_finite := hPre_entries_finite)
    ∧ quiescent_ReferenceIdeal (hReferenceIdeal := hReferenceIdeal)
    ∧ quiescent_ReferenceIdeal_pre_entries_finite (hReferenceIdeal := hReferenceIdeal) (hPre_entries_finite := hPre_entries_finite)
    ∧ preserves_Kernel_KernelIdeal
    ∧ algebraic_KernelIdeal_ReferenceIdeal_pre_entries_finite (hKernelIdeal := hKernelIdeal) (hReferenceIdeal := hReferenceIdeal) (hPre_entries_finite := hPre_entries_finite)
-- ==== Pre_entries_finite.lean ====
abbrev S32768x128 : Shape := ⟨2, ![32768, 128]⟩
abbrev S128 : Shape := ⟨1, ![128]⟩
abbrev S128x128 : Shape := ⟨2, ![128, 128]⟩
abbrev S128x1 : Shape := ⟨2, ![128, 1]⟩
abbrev S32768 : Shape := ⟨1, ![32768]⟩
abbrev S16 : Shape := ⟨1, ![16]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg8 : IVec S16 32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_c_6 : IVec S_ 32 := constantI S_ 32 0#32
  let main_v19 : IVec S16 32 := broadcastInDim S16 ![] bcast_S_S16 main_c_6
  let main_v20 : IVec S16 1 := cmpi .sge main_arg8 main_v19
  let main_c_7 : IVec S_ 32 := constantI S_ 32 32768#32
  let main_v21 : IVec S16 32 := broadcastInDim S16 ![] bcast_S_S16 main_c_7
  let main_v22 : IVec S16 1 := cmpi .slt main_arg8 main_v21
  let main_v23 : IVec S16 1 := andi main_v20 main_v22
  let main_c_8 : IVec S_ 1 := constantI S_ 1 1#1
  let main_v24 : IVec S_ 1 := (fun x v => Host.reduce IntOp.andi x v reducesTo_S16_S_d0 h_S_) main_v23 main_c_8
  let main_v25 : IVec S_ 1 := andi main_v18 main_v24
  main_v25

def fn {F : FTy → Type} [FloatOps F] (main_arg0 : FVec F S32768x128 .f32) (main_arg1 : FVec F S128 .f32) (main_arg2 : FVec F S128 .f32) (main_arg3 : FVec F S128x128 .f32) (main_arg4 : FVec F S128x128 .f32) (main_arg5 : FVec F S128 .f32) (main_arg6 : FVec F S128x1 .f32) (main_arg7 : IVec S32768 32) (main_arg8 : IVec S16 32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x1 .f32 := Host.absf main_arg6
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg8 main_v13 main_v16
-- ==== Kernel.lean ====
abbrev S32768x128 : Shape := ⟨2, ![32768, 128]⟩
abbrev S128 : Shape := ⟨1, ![128]⟩
abbrev S128x128 : Shape := ⟨2, ![128, 128]⟩
abbrev S128x1 : Shape := ⟨2, ![128, 1]⟩
abbrev S32768 : Shape := ⟨1, ![32768]⟩
abbrev S16 : Shape := ⟨1, ![16]⟩
abbrev S2x1x16384 : Shape := ⟨3, ![2, 1, 16384]⟩
abbrev S1x16 : Shape := ⟨2, ![1, 16]⟩
abbrev S1x128 : Shape := ⟨2, ![1, 128]⟩
abbrev S16x128 : Shape := ⟨2, ![16, 128]⟩
abbrev S1x1x16384 : Shape := ⟨3, ![1, 1, 16384]⟩
abbrev S16384x128 : Shape := ⟨2, ![16384, 128]⟩
abbrev S8x128 : Shape := ⟨2, ![8, 128]⟩
abbrev S16x1 : Shape := ⟨2, ![16, 1]⟩
abbrev S2048x8x128 : Shape := ⟨3, ![2048, 8, 128]⟩
abbrev S16x16 : Shape := ⟨2, ![16, 16]⟩
abbrev S1x16384 : Shape := ⟨2, ![1, 16384]⟩
abbrev S16x16384 : Shape := ⟨2, ![16, 16384]⟩

abbrev nBuf : Space → Nat
  | .hbm => 16
  | .vmem => 22
  | .smem => 0
  | _ => 0

abbrev bufTy : (tb : Table) → Fin (tcTables nBuf tb) → BufTy
  | .hbm, ⟨0, _⟩ => ⟨S32768x128, .f32⟩
  | .hbm, ⟨1, _⟩ => ⟨S128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S32768, .i32⟩
  | .hbm, ⟨8, _⟩ => ⟨S16, .i32⟩
  | .hbm, ⟨9, _⟩ => ⟨S2x1x16384, .i32⟩
  | .hbm, ⟨10, _⟩ => ⟨S1x16, .i32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S16x128, .f32⟩
  | .local _ .vmem, ⟨0, _⟩ => ⟨S1x1x16384, .i32⟩
  | .local _ .vmem, ⟨1, _⟩ => ⟨S1x1x16384, .i32⟩
  | .local _ .vmem, ⟨2, _⟩ => ⟨S1x16, .i32⟩
  | .local _ .vmem, ⟨3, _⟩ => ⟨S16384x128, .f32⟩
  | .local _ .vmem, ⟨4, _⟩ => ⟨S16384x128, .f32⟩
  | .local _ .vmem, ⟨5, _⟩ => ⟨S1x128, .f32⟩
  | .local _ .vmem, ⟨6, _⟩ => ⟨S1x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S16x128, .f32⟩
  | .local _ .vmem, ⟨12, _⟩ => ⟨S8x128, .f32⟩
  | .local _ .vmem, ⟨13, _⟩ => ⟨S8x128, .f32⟩
  | .local _ .vmem, ⟨14, _⟩ => ⟨S16x128, .f32⟩
  | .local _ .vmem, ⟨15, _⟩ => ⟨S16x1, .f32⟩
  | .local _ .vmem, ⟨16, _⟩ => ⟨S16x1, .f32⟩
  | .local _ .vmem, ⟨17, _⟩ => ⟨S16x128, .f32⟩
  | .local _ .vmem, ⟨18, _⟩ => ⟨S1x128, .f32⟩
  | .local _ .vmem, ⟨19, _⟩ => ⟨S1x128, .f32⟩
  | .local _ .vmem, ⟨20, _⟩ => ⟨S16x128, .f32⟩
  | .local _ .vmem, ⟨21, _⟩ => ⟨S128x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨2, ![2, 2], ![false, false]⟩

def k0_cond4 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def k0_cond5 (i : grid0.Coords) : BitVec 1 :=
  let arg1 : BitVec 32 := BitVec.ofNat 32 (i 1).val
  let c1_i32_38 : BitVec 32 := 1#32
  let v73 : BitVec 1 := Scalar.cmpi .eq arg1 c1_i32_38
  let v74 : BitVec 32 := Scalar.extui v73
  let c0_i32_39 : BitVec 32 := 0#32
  let v75 : BitVec 1 := Scalar.cmpi .ne v74 c0_i32_39
  v75

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x16384 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceIdeal.lean ====
abbrev S32768x128 : Shape := ⟨2, ![32768, 128]⟩
abbrev S128 : Shape := ⟨1, ![128]⟩
abbrev S128x128 : Shape := ⟨2, ![128, 128]⟩
abbrev S128x1 : Shape := ⟨2, ![128, 1]⟩
abbrev S32768 : Shape := ⟨1, ![32768]⟩
abbrev S16 : Shape := ⟨1, ![16]⟩
abbrev S_ : Shape := ⟨0, ![]⟩
abbrev S1x128 : Shape := ⟨2, ![1, 128]⟩
abbrev S16x1 : Shape := ⟨2, ![16, 1]⟩
abbrev S16x128 : Shape := ⟨2, ![16, 128]⟩
abbrev S32768x1 : Shape := ⟨2, ![32768, 1]⟩
abbrev S1x32768 : Shape := ⟨2, ![1, 32768]⟩
abbrev S16x32768 : Shape := ⟨2, ![16, 32768]⟩

abbrev nBuf : Space → Nat
  | .hbm => 141
  | .vmem => 0
  | .smem => 0
  | _ => 0

abbrev hbmTy0_0 (i : Nat) : BufTy := match i % 128 with
  | 0 => ⟨S32768x128, .f32⟩
  | 1 => ⟨S128, .f32⟩
  | 2 => ⟨S128, .f32⟩
  | 3 => ⟨S128x128, .f32⟩
  | 4 => ⟨S128x128, .f32⟩
  | 5 => ⟨S128, .f32⟩
  | 6 => ⟨S128x1, .f32⟩
  | 7 => ⟨S32768, .i32⟩
  | 8 => ⟨S16, .i32⟩
  | 9 => ⟨S_, .f32⟩
  | 10 => ⟨S128, .f32⟩
  | 11 => ⟨S_, .f32⟩
  | 12 => ⟨S128, .f32⟩
  | 13 => ⟨S128, .f32⟩
  | 14 => ⟨S_, .i32⟩
  | 15 => ⟨S_, .f32⟩
  | 16 => ⟨S128, .f32⟩
  | 17 => ⟨S1x128, .f32⟩
  | 18 => ⟨S_, .f32⟩
  | 19 => ⟨S1x128, .f32⟩
  | 20 => ⟨S1x128, .f32⟩
  | 21 => ⟨S32768x128, .f32⟩
  | 22 => ⟨S32768x128, .f32⟩
  | 23 => ⟨S32768x128, .f32⟩
  | 24 => ⟨S_, .f32⟩
  | 25 => ⟨S_, .f32⟩
  | 26 => ⟨S_, .f32⟩
  | 27 => ⟨S_, .f32⟩
  | 28 => ⟨S128, .f32⟩
  | 29 => ⟨S128, .f32⟩
  | 30 => ⟨S128, .f32⟩
  | 31 => ⟨S_, .f32⟩
  | 32 => ⟨S_, .i1⟩
  | 33 => ⟨S_, .f32⟩
  | 34 => ⟨S_, .f32⟩
  | 35 => ⟨S128, .f32⟩
  | 36 => ⟨S128, .f32⟩
  | 37 => ⟨S1x128, .f32⟩
  | 38 => ⟨S32768x128, .f32⟩
  | 39 => ⟨S32768x128, .f32⟩
  | 40 => ⟨S_, .f32⟩
  | 41 => ⟨S128, .f32⟩
  | 42 => ⟨S128, .f32⟩
  | 43 => ⟨S128, .f32⟩
  | 44 => ⟨S1x128, .f32⟩
  | 45 => ⟨S32768x128, .f32⟩
  | 46 => ⟨S32768x128, .f32⟩
  | 47 => ⟨S1x128, .f32⟩
  | 48 => ⟨S32768x128, .f32⟩
  | 49 => ⟨S32768x128, .f32⟩
  | 50 => ⟨S1x128, .f32⟩
  | 51 => ⟨S32768x128, .f32⟩
  | 52 => ⟨S32768x128, .f32⟩
  | 53 => ⟨S32768x128, .f32⟩
  | 54 => ⟨S_, .i32⟩
  | 55 => ⟨S16, .i32⟩
  | 56 => ⟨S16, .i1⟩
  | 57 => ⟨S_, .i32⟩
  | 58 => ⟨S16, .i32⟩
  | 59 => ⟨S16, .i32⟩
  | 60 => ⟨S16, .i32⟩
  | 61 => ⟨S16x1, .i32⟩
  | 62 => ⟨S16x128, .f32⟩
  | 63 => ⟨S16x128, .f32⟩
  | 64 => ⟨S1x128, .f32⟩
  | 65 => ⟨S16x128, .f32⟩
  | 66 => ⟨S16x128, .f32⟩
  | 67 => ⟨S_, .i32⟩
  | 68 => ⟨S32768, .i32⟩
  | 69 => ⟨S32768, .i1⟩
  | 70 => ⟨S_, .i32⟩
  | 71 => ⟨S32768, .i32⟩
  | 72 => ⟨S32768, .i32⟩
  | 73 => ⟨S32768, .i32⟩
  | 74 => ⟨S32768x1, .i32⟩
  | 75 => ⟨S32768x128, .f32⟩
  | 76 => ⟨S32768x128, .f32⟩
  | 77 => ⟨S32768x128, .f32⟩
  | 78 => ⟨S32768x128, .f32⟩
  | 79 => ⟨S_, .f32⟩
  | 80 => ⟨S32768x128, .f32⟩
  | 81 => ⟨S32768x128, .f32⟩
  | 82 => ⟨S_, .f32⟩
  | 83 => ⟨S32768x128, .f32⟩
  | 84 => ⟨S32768x128, .f32⟩
  | 85 => ⟨S32768x1, .f32⟩
  | 86 => ⟨S1x32768, .i32⟩
  | 87 => ⟨S16, .i32⟩
  | 88 => ⟨S16x1, .i32⟩
  | 89 => ⟨S16x32768, .i32⟩
  | 90 => ⟨S16x32768, .i32⟩
  | 91 => ⟨S16x32768, .i1⟩
  | 92 => ⟨S32768, .f32⟩
  | 93 => ⟨S1x32768, .f32⟩
  | 94 => ⟨S_, .f32⟩
  | 95 => ⟨S_, .f32⟩
  | 96 => ⟨S16x32768, .f32⟩
  | 97 => ⟨S16x32768, .f32⟩
  | 98 => ⟨S16x32768, .f32⟩
  | 99 => ⟨S_, .f32⟩
  | 100 => ⟨S16, .f32⟩
  | 101 => ⟨S16x1, .f32⟩
  | 102 => ⟨S16x1, .f32⟩
  | 103 => ⟨S_, .f32⟩
  | 104 => ⟨S16x1, .f32⟩
  | 105 => ⟨S16x1, .i1⟩
  | 106 => ⟨S_, .f32⟩
  | 107 => ⟨S_, .f32⟩
  | 108 => ⟨S16x1, .f32⟩
  | 109 => ⟨S16x1, .f32⟩
  | 110 => ⟨S_, .i32⟩
  | 111 => ⟨S32768, .i32⟩
  | 112 => ⟨S32768, .i1⟩
  | 113 => ⟨S_, .i32⟩
  | 114 => ⟨S32768, .i32⟩
  | 115 => ⟨S32768, .i32⟩
  | 116 => ⟨S32768, .i32⟩
  | 117 => ⟨S32768x1, .i32⟩
  | 118 => ⟨S32768x1, .f32⟩
  | 119 => ⟨S32768x1, .f32⟩
  | 120 => ⟨S32768x1, .f32⟩
  | 121 => ⟨S_, .f32⟩
  | 122 => ⟨S16x1, .f32⟩
  | 123 => ⟨S32768x1, .i32⟩
  | 124 => ⟨S16x1, .f32⟩
  | 125 => ⟨S_, .i32⟩
  | 126 => ⟨S32768, .i32⟩
  | 127 => ⟨S32768, .i1⟩
  | _ => ⟨S32768x128, .f32⟩

abbrev hbmTy0_1 (i : Nat) : BufTy := match i % 128 with
  | 0 => ⟨S_, .i32⟩
  | 1 => ⟨S32768, .i32⟩
  | 2 => ⟨S32768, .i32⟩
  | 3 => ⟨S32768, .i32⟩
  | 4 => ⟨S32768x1, .i32⟩
  | 5 => ⟨S32768x1, .f32⟩
  | 6 => ⟨S32768x1, .f32⟩
  | 7 => ⟨S32768x128, .f32⟩
  | 8 => ⟨S32768x128, .f32⟩
  | 9 => ⟨S_, .f32⟩
  | 10 => ⟨S16x128, .f32⟩
  | 11 => ⟨S32768x1, .i32⟩
  | 12 => ⟨S16x128, .f32⟩
  | _ => ⟨S32768x128, .f32⟩

abbrev hbmTy (i : Nat) : BufTy := match i / 128 with
  | 0 => hbmTy0_0 i
  | 1 => hbmTy0_1 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_cst_3 : Ref sig .tc := ⟨.hbm, 31, rfl⟩
abbrev main_call0_v12 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_cst_1 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_c_2 : Ref sig .tc := ⟨.hbm, 54, rfl⟩
abbrev main_v20 : Ref sig .tc := ⟨.hbm, 55, rfl⟩
abbrev main_v21 : Ref sig .tc := ⟨.hbm, 56, rfl⟩
abbrev main_c_3 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c_4 : Ref sig .tc := ⟨.hbm, 67, rfl⟩
abbrev main_v31 : Ref sig .tc := ⟨.hbm, 68, rfl⟩
abbrev main_v32 : Ref sig .tc := ⟨.hbm, 69, rfl⟩
abbrev main_c_5 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_6 : Ref sig .tc := ⟨.hbm, 79, rfl⟩
abbrev main_v41 : Ref sig .tc := ⟨.hbm, 80, rfl⟩
abbrev main_v42 : Ref sig .tc := ⟨.hbm, 81, rfl⟩
abbrev main_cst_7 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_8 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v54 : Ref sig .tc := ⟨.hbm, 98, rfl⟩
abbrev main_cst_9 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_cst_10 : Ref sig .tc := ⟨.hbm, 103, rfl⟩
abbrev main_v58 : Ref sig .tc := ⟨.hbm, 104, rfl⟩
abbrev main_v59 : Ref sig .tc := ⟨.hbm, 105, rfl⟩
abbrev main_cst_11 : Ref sig .tc := ⟨.hbm, 106, rfl⟩
abbrev main_call2_v0 : Ref sig .tc := ⟨.hbm, 107, rfl⟩
abbrev main_call2_v1 : Ref sig .tc := ⟨.hbm, 108, rfl⟩
abbrev main_v60 : Ref sig .tc := ⟨.hbm, 109, rfl⟩
abbrev main_c_12 : Ref sig .tc := ⟨.hbm, 110, rfl⟩
abbrev main_v61 : Ref sig .tc := ⟨.hbm, 111, rfl⟩
abbrev main_v62 : Ref sig .tc := ⟨.hbm, 112, rfl⟩
abbrev main_c_13 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_14 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_c_15 : Ref sig .tc := ⟨.hbm, 125, rfl⟩
abbrev main_v73 : Ref sig .tc := ⟨.hbm, 126, rfl⟩
abbrev main_v74 : Ref sig .tc := ⟨.hbm, 127, rfl⟩
abbrev main_c_16 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_cst_17 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩

abbrev nD : Nat := 1
abbrev τ : Topo := Topo.v7x

variable {F : FTy → Type} [FloatOps F]
-- ==== Proof.KernelIdeal.Body.lean ====
/- What one point of the grid does to the kernel's buffers: the state the ten scratch buffers carry, the four kinds of
   point as functions of that state, and the body's run at each of them. -/
module

public import proofs.«01_k».proof.Proof.Gen.KernelIdeal.Skeleton
public import proofs.«01_k».proof.Proof.Gen.KernelIdeal.Frame
public import Idealize.ShloMosaic.Lib.VecWindow

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of the six scratch buffers every point leaves known: the folded sums of the features and of their
    squares, the features of the last nodes, and the running maximum, denominator and numerator of the softmax. -/
structure Carry (F : FTy → Type) where
  sum : Vec F S8x128 .f32
  sq : Vec F S8x128 .f32
  fl : Vec F S16x128 .f32
  mx : Vec F S16x1 .f32
  den : Vec F S16x1 .f32
  acc : Vec F S16x128 .f32

/-- The contents of the four scratch buffers the first point of the second phase fills: scale, shift, the bias of the
    last nodes and the scaled weights. -/
structure Norm (F : FTy → Type) where
  sc : Vec F S1x128 .f32
  sh : Vec F S1x128 .f32
  fv : Vec F S16x128 .f32
  wu : Vec F S128x128 .f32

/-- The state after the first point's initial stores. -/
def start : Carry F := ⟨k0_pay1, k0_pay2, k0_pay3, k0_pay4, k0_pay5, k0_pay6⟩

/-- One block of the first phase: the sums grow by the block's, the last nodes' rows in the block are picked out. -/
def gather (i : grid0.Coords) (ln : Vec F S1x16 .i32) (x : Vec F S16384x128 .f32) (s : Carry F) : Carry F :=
  { s with
    sum := k0_pay15 x s.sum
    sq := k0_pay16 x s.sq
    fl := k0_pay7 (k0_pay17 (BitVec.ofNat 32 (i 1).val) x ln s.fl) }

/-- What the second phase's first point derives from the sums. -/
def norm (g b : Vec F S1x128 .f32) (wu wv : Vec F S128x128 .f32) (bv : Vec F S1x128 .f32) (s : Carry F) : Norm F :=
  ⟨k0_pay21 s.sum s.sq g, k0_pay22 s.sum s.sq g b,
    k0_pay9 (k0_pay19 s.sum s.sq g) (k0_pay20 s.sum s.sq g b) wu s.fl wv bv,
    k0_pay8 (k0_pay23 s.sum s.sq g) wu⟩

/-- One block of the second phase: the running softmax takes the block's logits in. -/
def attend (seg : Vec F S1x1x16384 .i32) (x : Vec F S16384x128 .f32) (we : Vec F S1x128 .f32) (n : Norm F) (s : Carry F) : Carry F :=
  { s with
    mx := k0_pay12 (k0_pay26 x n.wu seg n.fv we s.mx)
    den := k0_pay10 (k0_pay27 x n.wu seg n.fv we s.mx) (k0_pay28 x n.wu seg n.fv we s.mx) s.den
    acc := k0_pay11 x (k0_pay27 x n.wu seg n.fv we s.mx) (k0_pay28 x n.wu seg n.fv we s.mx) s.acc }

/-- What the last point stores. -/
def readout (n : Norm F) (s : Carry F) : Vec F S16x128 .f32 := k0_pay13 s.den s.acc n.sc n.sh

/-- The condition of the initial stores, -/
abbrev atStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- of the first phase, -/
abbrev inFirst (i : grid0.Coords) : Prop := (Scalar.cmpi .ne (Scalar.extui (Scalar.cmpi .eq (BitVec.ofNat 32 (i 0).val) 0#32)) 0#32) = 1#1
/-- of the second phase's preparation, -/
abbrev atMid (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- of the second phase -/
abbrev inSecond (i : grid0.Coords) : Prop := k0_cond4 i = 1#1
/-- and of the final store. -/
abbrev atEnd (i : grid0.Coords) : Prop := k0_cond5 i = 1#1

/-- A load of all of a whole buffer of this shape reads its contents, -/
theorem load_S1x1x16384 {e : EltTy} (m : Memref sig .tc .vmem S1x1x16384 e) (h : m.IsWhole) (x : Vec F S1x1x16384 e) :
    View.readAt (Elt F) m.view (Rect.unit ![0, 0, 0] ![1, 1, 16384] inb_S1x1x16384_S1x1x16384_0_0_0).toLoadRect (h.unread x) = x :=
  (View.readAt_full m.view _ inb_S1x1x16384_S1x1x16384_0_0_0).trans (h.read_unread x)

/-- and a load of all of it after a store of all of it reads what was stored. -/
theorem reload_S1x1x16384 {e : EltTy} (m : Memref sig .tc .vmem S1x1x16384 e) (w : Vec F S1x1x16384 e) (L : List (View.Piece (Elt F) S1x1x16384 e)) :
    m.view.readCov (⟨Rect.unit ![0, 0, 0] ![1, 1, 16384] inb_S1x1x16384_S1x1x16384_0_0_0, w⟩ :: L) (Rect.unit ![0, 0, 0] ![1, 1, 16384] inb_S1x1x16384_S1x1x16384_0_0_0).toLoadRect = w :=
  View.readCov_full m.view inb_S1x1x16384_S1x1x16384_0_0_0 inb_S1x1x16384_S1x1x16384_0_0_0 w L

/-- A load of all of a whole buffer of this shape reads its contents, -/
theorem load_S1x16 {e : EltTy} (m : Memref sig .tc .vmem S1x16 e) (h : m.IsWhole) (x : Vec F S1x16 e) :
    View.readAt (Elt F) m.view (Rect.unit ![0, 0] ![1, 16] inb_S1x16_S1x16_0_0).toLoadRect (h.unread x) = x :=
  (View.readAt_full m.view _ inb_S1x16_S1x16_0_0).trans (h.read_unread x)

/-- and a load of all of it after a store of all of it reads what was stored. -/
theorem reload_S1x16 {e : EltTy} (m : Memref sig .tc .vmem S1x16 e) (w : Vec F S1x16 e) (L : List (View.Piece (Elt F) S1x16 e)) :
    m.view.readCov (⟨Rect.unit ![0, 0] ![1, 16] inb_S1x16_S1x16_0_0, w⟩ :: L) (Rect.unit ![0, 0] ![1, 16] inb_S1x16_S1x16_0_0).toLoadRect = w :=
  View.readCov_full m.view inb_S1x16_S1x16_0_0 inb_S1x16_S1x16_0_0 w L

/-- A load of all of a whole buffer of this shape reads its contents, -/
theorem load_S16384x128 {e : EltTy} (m : Memref sig .tc .vmem S16384x128 e) (h : m.IsWhole) (x : Vec F S16384x128 e) :
    View.readAt (Elt F) m.view (Rect.unit ![0, 0] ![16384, 128] inb_S16384x128_S16384x128_0_0).toLoadRect (h.unread x) = x :=
  (View.readAt_full m.view _ inb_S16384x128_S16384x128_0_0).trans (h.read_unread x)

/-- and a load of all of it after a store of all of it reads what was stored. -/
theorem reload_S16384x128 {e : EltTy} (m : Memref sig .tc .vmem S16384x128 e) (w : Vec F S16384x128 e) (L : List (View.Piece (Elt F) S16384x128 e)) :
    m.view.readCov (⟨Rect.unit ![0, 0] ![16384, 128] inb_S16384x128_S16384x128_0_0, w⟩ :: L) (Rect.unit ![0, 0] ![16384, 128] inb_S16384x128_S16384x128_0_0).toLoadRect = w :=
  View.readCov_full m.view inb_S16384x128_S16384x128_0_0 inb_S16384x128_S16384x128_0_0 w L

/-- A load of all of a whole buffer of this shape reads its contents, -/
theorem load_S1x128 {e : EltTy} (m : Memref sig .tc .vmem S1x128 e) (h : m.IsWhole) (x : Vec F S1x128 e) :
    View.readAt (Elt F) m.view (Rect.unit ![0, 0] ![1, 128] inb_S1x128_S1x128_0_0).toLoadRect (h.unread x) = x :=
  (View.readAt_full m.view _ inb_S1x128_S1x128_0_0).trans (h.read_unread x)

/-- and a load of all of it after a store of all of it reads what was stored. -/
theorem reload_S1x128 {e : EltTy} (m : Memref sig .tc .vmem S1x128 e) (w : Vec F S1x128 e) (L : List (View.Piece (Elt F) S1x128 e)) :
    m.view.readCov (⟨Rect.unit ![0, 0] ![1, 128] inb_S1x128_S1x128_0_0, w⟩ :: L) (Rect.unit ![0, 0] ![1, 128] inb_S1x128_S1x128_0_0).toLoadRect = w :=
  View.readCov_full m.view inb_S1x128_S1x128_0_0 inb_S1x128_S1x128_0_0 w L

/-- A load of all of a whole buffer of this shape reads its contents, -/
theorem load_S128x128 {e : EltTy} (m : Memref sig .tc .vmem S128x128 e) (h : m.IsWhole) (x : Vec F S128x128 e) :
    View.readAt (Elt F) m.view (Rect.unit ![0, 0] ![128, 128] inb_S128x128_S128x128_0_0).toLoadRect (h.unread x) = x :=
  (View.readAt_full m.view _ inb_S128x128_S128x128_0_0).trans (h.read_unread x)

/-- and a load of all of it after a store of all of it reads what was stored. -/
theorem reload_S128x128 {e : EltTy} (m : Memref sig .tc .vmem S128x128 e) (w : Vec F S128x128 e) (L : List (View.Piece (Elt F) S128x128 e)) :
    m.view.readCov (⟨Rect.unit ![0, 0] ![128, 128] inb_S128x128_S128x128_0_0, w⟩ :: L) (Rect.unit ![0, 0] ![128, 128] inb_S128x128_S128x128_0_0).toLoadRect = w :=
  View.readCov_full m.view inb_S128x128_S128x128_0_0 inb_S128x128_S128x128_0_0 w L

/-- A load of all of a whole buffer of this shape reads its contents, -/
theorem load_S16x128 {e : EltTy} (m : Memref sig .tc .vmem S16x128 e) (h : m.IsWhole) (x : Vec F S16x128 e) :
    View.readAt (Elt F) m.view (Rect.unit ![0, 0] ![16, 128] inb_S16x128_S16x128_0_0).toLoadRect (h.unread x) = x :=
  (View.readAt_full m.view _ inb_S16x128_S16x128_0_0).trans (h.read_unread x)

/-- and a load of all of it after a store of all of it reads what was stored. -/
theorem reload_S16x128 {e : EltTy} (m : Memref sig .tc .vmem S16x128 e) (w : Vec F S16x128 e) (L : List (View.Piece (Elt F) S16x128 e)) :
    m.view.readCov (⟨Rect.unit ![0, 0] ![16, 128] inb_S16x128_S16x128_0_0, w⟩ :: L) (Rect.unit ![0, 0] ![16, 128] inb_S16x128_S16x128_0_0).toLoadRect = w :=
  View.readCov_full m.view inb_S16x128_S16x128_0_0 inb_S16x128_S16x128_0_0 w L

/-- A load of all of a whole buffer of this shape reads its contents, -/
theorem load_S8x128 {e : EltTy} (m : Memref sig .tc .vmem S8x128 e) (h : m.IsWhole) (x : Vec F S8x128 e) :
    View.readAt (Elt F) m.view (Rect.unit ![0, 0] ![8, 128] inb_S8x128_S8x128_0_0).toLoadRect (h.unread x) = x :=
  (View.readAt_full m.view _ inb_S8x128_S8x128_0_0).trans (h.read_unread x)

/-- and a load of all of it after a store of all of it reads what was stored. -/
theorem reload_S8x128 {e : EltTy} (m : Memref sig .tc .vmem S8x128 e) (w : Vec F S8x128 e) (L : List (View.Piece (Elt F) S8x128 e)) :
    m.view.readCov (⟨Rect.unit ![0, 0] ![8, 128] inb_S8x128_S8x128_0_0, w⟩ :: L) (Rect.unit ![0, 0] ![8, 128] inb_S8x128_S8x128_0_0).toLoadRect = w :=
  View.readCov_full m.view inb_S8x128_S8x128_0_0 inb_S8x128_S8x128_0_0 w L

/-- A load of all of a whole buffer of this shape reads its contents, -/
theorem load_S16x1 {e : EltTy} (m : Memref sig .tc .vmem S16x1 e) (h : m.IsWhole) (x : Vec F S16x1 e) :
    View.readAt (Elt F) m.view (Rect.unit ![0, 0] ![16, 1] inb_S16x1_S16x1_0_0).toLoadRect (h.unread x) = x :=
  (View.readAt_full m.view _ inb_S16x1_S16x1_0_0).trans (h.read_unread x)

/-- and a load of all of it after a store of all of it reads what was stored. -/
theorem reload_S16x1 {e : EltTy} (m : Memref sig .tc .vmem S16x1 e) (w : Vec F S16x1 e) (L : List (View.Piece (Elt F) S16x1 e)) :
    m.view.readCov (⟨Rect.unit ![0, 0] ![16, 1] inb_S16x1_S16x1_0_0, w⟩ :: L) (Rect.unit ![0, 0] ![16, 1] inb_S16x1_S16x1_0_0).toLoadRect = w :=
  View.readCov_full m.view inb_S16x1_S16x1_0_0 inb_S16x1_S16x1_0_0 w L

end Cert.KernelIdeal.Own

end
-- ==== Proof.KernelIdeal.RunA.lean ====
/- The body's run at the first point: initial stores, then one block of the first phase. -/
module

public import proofs.«01_k».proof.Proof.KernelIdeal.Body

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1600000 in
/-- The body's run at the first point: initial stores, then one block of the first phase. -/
theorem runA (c : Dev nD) (i : grid0.Coords) (arg2 : Memref sig .tc .vmem S1x1x16384 .i32) (harg2 : arg2.IsWhole) (arg3 : Memref sig .tc .vmem S1x16 .i32) (harg3 : arg3.IsWhole) (arg4 : Memref sig .tc .vmem S16384x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S16x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S16x128 .f32) (harg14 : arg14.IsWhole) (arg15 : Memref sig .tc .vmem S16x1 .f32) (harg15 : arg15.IsWhole) (arg16 : Memref sig .tc .vmem S16x1 .f32) (harg16 : arg16.IsWhole) (arg17 : Memref sig .tc .vmem S16x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S16x128 .f32) (harg20 : arg20.IsWhole) (arg21 : Memref sig .tc .vmem S128x128 .f32) (harg21 : arg21.IsWhole) (hc0 : atStart i) (hc1 : inFirst i) (hc2 : ¬atMid i) (hc3 : ¬inSecond i)
    (x0 : Vec F S1x1x16384 .i32) (x1 : Vec F S1x16 .i32) (x2 : Vec F S16384x128 .f32) (x3 : Vec F S1x128 .f32) (x4 : Vec F S1x128 .f32) (x5 : Vec F S128x128 .f32) (x6 : Vec F S128x128 .f32) (x7 : Vec F S1x128 .f32) (x8 : Vec F S1x128 .f32) (y : Vec F S16x128 .f32)  (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y ∗ owns (c : Thread nD τ) arg12 fullShare (gather i x1 x2 start).sum ∗ owns (c : Thread nD τ) arg13 fullShare (gather i x1 x2 start).sq ∗ owns (c : Thread nD τ) arg14 fullShare (gather i x1 x2 start).fl ∗ owns (c : Thread nD τ) arg15 fullShare (gather i x1 x2 start).mx ∗ owns (c : Thread nD τ) arg16 fullShare (gather i x1 x2 start).den ∗ owns (c : Thread nD τ) arg17 fullShare (gather i x1 x2 start).acc ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) E (cc0__attn_readout_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__attn_readout_kernel_eq_skeleton]; unfold cc0__attn_readout_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HS0]
  · iexists _; isplitr; swap; · iexact HS0
    ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl
  isplitl [HS1]
  · iexists _; isplitr; swap; · iexact HS1
    ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl
  isplitl [HS2]
  · iexists _; isplitr; swap; · iexact HS2
    ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl
  isplitl [HS3]
  · iexists _; isplitr; swap; · iexact HS3
    ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl
  isplitl [HS4]
  · iexists _; isplitr; swap; · iexact HS4
    ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl
  isplitl [HS5]
  · iexists _; isplitr; swap; · iexact HS5
    ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  iexists _, _; isplitr; swap; · iexact HS9
  ipureintro; rfl

end Cert.KernelIdeal.Own

end
-- ==== Proof.KernelIdeal.RunB.lean ====
/- The body's run at the first phase's second point. -/
module

public import proofs.«01_k».proof.Proof.KernelIdeal.Body

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1600000 in
/-- The body's run at the first phase's second point. -/
theorem runB (c : Dev nD) (i : grid0.Coords) (arg2 : Memref sig .tc .vmem S1x1x16384 .i32) (harg2 : arg2.IsWhole) (arg3 : Memref sig .tc .vmem S1x16 .i32) (harg3 : arg3.IsWhole) (arg4 : Memref sig .tc .vmem S16384x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S16x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S16x128 .f32) (harg14 : arg14.IsWhole) (arg15 : Memref sig .tc .vmem S16x1 .f32) (harg15 : arg15.IsWhole) (arg16 : Memref sig .tc .vmem S16x1 .f32) (harg16 : arg16.IsWhole) (arg17 : Memref sig .tc .vmem S16x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S16x128 .f32) (harg20 : arg20.IsWhole) (arg21 : Memref sig .tc .vmem S128x128 .f32) (harg21 : arg21.IsWhole) (hc0 : ¬atStart i) (hc1 : inFirst i) (hc2 : ¬atMid i) (hc3 : ¬inSecond i)
    (x0 : Vec F S1x1x16384 .i32) (x1 : Vec F S1x16 .i32) (x2 : Vec F S16384x128 .f32) (x3 : Vec F S1x128 .f32) (x4 : Vec F S1x128 .f32) (x5 : Vec F S128x128 .f32) (x6 : Vec F S128x128 .f32) (x7 : Vec F S1x128 .f32) (x8 : Vec F S1x128 .f32) (y : Vec F S16x128 .f32) (s : Carry F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y ∗ owns (c : Thread nD τ) arg12 fullShare s.sum ∗ owns (c : Thread nD τ) arg13 fullShare s.sq ∗ owns (c : Thread nD τ) arg14 fullShare s.fl ∗ owns (c : Thread nD τ) arg15 fullShare s.mx ∗ owns (c : Thread nD τ) arg16 fullShare s.den ∗ owns (c : Thread nD τ) arg17 fullShare s.acc ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y ∗ owns (c : Thread nD τ) arg12 fullShare (gather i x1 x2 s).sum ∗ owns (c : Thread nD τ) arg13 fullShare (gather i x1 x2 s).sq ∗ owns (c : Thread nD τ) arg14 fullShare (gather i x1 x2 s).fl ∗ owns (c : Thread nD τ) arg15 fullShare (gather i x1 x2 s).mx ∗ owns (c : Thread nD τ) arg16 fullShare (gather i x1 x2 s).den ∗ owns (c : Thread nD τ) arg17 fullShare (gather i x1 x2 s).acc ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) E (cc0__attn_readout_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__attn_readout_kernel_eq_skeleton]; unfold cc0__attn_readout_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%ds6, %fs6, -, HS6⟩, ⟨%ds7, %fs7, -, HS7⟩, ⟨%ds8, %fs8, -, HS8⟩, ⟨%ds9, %fs9, -, HS9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2; obtain rfl := harg15.eq_unread hfs3; obtain rfl := harg16.eq_unread hfs4; obtain rfl := harg17.eq_unread hfs5
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HS0]
  · iexists _; isplitr; swap; · iexact HS0
    ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl
  isplitl [HS1]
  · iexists _; isplitr; swap; · iexact HS1
    ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl
  isplitl [HS2]
  · iexists _; isplitr; swap; · iexact HS2
    ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl
  isplitl [HS3]
  · iexists _; isplitr; · ipureintro; exact harg15.read_unread _
    iexact HS3
  isplitl [HS4]
  · iexists _; isplitr; · ipureintro; exact harg16.read_unread _
    iexact HS4
  isplitl [HS5]
  · iexists _; isplitr; · ipureintro; exact harg17.read_unread _
    iexact HS5
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  iexists _, _; isplitr; swap; · iexact HS9
  ipureintro; rfl

end Cert.KernelIdeal.Own

end
-- ==== Proof.KernelIdeal.RunC.lean ====
/- The body's run at the second phase's first point: preparation, then one block of the second phase. -/
module

public import proofs.«01_k».proof.Proof.KernelIdeal.Body

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1600000 in
/-- The body's run at the second phase's first point: preparation, then one block of the second phase. -/
theorem runC (c : Dev nD) (i : grid0.Coords) (arg2 : Memref sig .tc .vmem S1x1x16384 .i32) (harg2 : arg2.IsWhole) (arg3 : Memref sig .tc .vmem S1x16 .i32) (harg3 : arg3.IsWhole) (arg4 : Memref sig .tc .vmem S16384x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S16x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S16x128 .f32) (harg14 : arg14.IsWhole) (arg15 : Memref sig .tc .vmem S16x1 .f32) (harg15 : arg15.IsWhole) (arg16 : Memref sig .tc .vmem S16x1 .f32) (harg16 : arg16.IsWhole) (arg17 : Memref sig .tc .vmem S16x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S16x128 .f32) (harg20 : arg20.IsWhole) (arg21 : Memref sig .tc .vmem S128x128 .f32) (harg21 : arg21.IsWhole) (hc0 : ¬atStart i) (hc1 : ¬inFirst i) (hc2 : atMid i) (hc3 : inSecond i) (hc4 : ¬atEnd i)
    (x0 : Vec F S1x1x16384 .i32) (x1 : Vec F S1x16 .i32) (x2 : Vec F S16384x128 .f32) (x3 : Vec F S1x128 .f32) (x4 : Vec F S1x128 .f32) (x5 : Vec F S128x128 .f32) (x6 : Vec F S128x128 .f32) (x7 : Vec F S1x128 .f32) (x8 : Vec F S1x128 .f32) (y : Vec F S16x128 .f32) (s : Carry F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y ∗ owns (c : Thread nD τ) arg12 fullShare s.sum ∗ owns (c : Thread nD τ) arg13 fullShare s.sq ∗ owns (c : Thread nD τ) arg14 fullShare s.fl ∗ owns (c : Thread nD τ) arg15 fullShare s.mx ∗ owns (c : Thread nD τ) arg16 fullShare s.den ∗ owns (c : Thread nD τ) arg17 fullShare s.acc ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y ∗ owns (c : Thread nD τ) arg12 fullShare (attend x0 x2 x8 (norm x3 x4 x5 x6 x7 s) s).sum ∗ owns (c : Thread nD τ) arg13 fullShare (attend x0 x2 x8 (norm x3 x4 x5 x6 x7 s) s).sq ∗ owns (c : Thread nD τ) arg14 fullShare (attend x0 x2 x8 (norm x3 x4 x5 x6 x7 s) s).fl ∗ owns (c : Thread nD τ) arg15 fullShare (attend x0 x2 x8 (norm x3 x4 x5 x6 x7 s) s).mx ∗ owns (c : Thread nD τ) arg16 fullShare (attend x0 x2 x8 (norm x3 x4 x5 x6 x7 s) s).den ∗ owns (c : Thread nD τ) arg17 fullShare (attend x0 x2 x8 (norm x3 x4 x5 x6 x7 s) s).acc ∗ owns (c : Thread nD τ) arg18 fullShare (norm x3 x4 x5 x6 x7 s).sc ∗ owns (c : Thread nD τ) arg19 fullShare (norm x3 x4 x5 x6 x7 s).sh ∗ owns (c : Thread nD τ) arg20 fullShare (norm x3 x4 x5 x6 x7 s).fv ∗ owns (c : Thread nD τ) arg21 fullShare (norm x3 x4 x5 x6 x7 s).wu) -∗ K ⟨⟩))
      ⊢ wp frame (wpE (defs₀ (F := F)) Variants.none c none) E (cc0__attn_readout_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__attn_readout_kernel_eq_skeleton]; unfold cc0__attn_readout_kernel_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%ds6, %fs6, -, HS6⟩, ⟨%ds7, %fs7, -, HS7⟩, ⟨%ds8, %fs8, -, HS8⟩, ⟨%ds9, %fs9, -, HS9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2; obtain rfl := harg15.eq_unread hfs3; obtain rfl := harg16.eq_unread hfs4; obtain rfl := harg17.eq_unread hfs5
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [HS0]
  · iexists _; isplitr; · ipureintro; exact harg12.read_unread _
    iexact HS0
  isplitl [HS1]
  · iexists _; isplitr; · ipureintro; exact harg13.read_unread _
    iexact HS1
  isplitl [HS2]
  · iexists _; isplitr; · ipureintro; exact harg14.read_unread _
    iexact HS2
  isplitl [HS3]
  · iexists _; isplitr; swap; · iexact HS3
    ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl
  isplitl [HS4]
  · iexists _; isplitr; swap; · iexact HS4
    ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl
  isplitl [HS5]
  · iexists _; isplitr; swap; · iexact HS5
    ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl
  isplitl [HS6]
  · iexists _; isplitr; swap; · iexact HS6
    ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl
  isplitl [HS7]
  · iexists _; isplitr; swap; · iexact HS7
    ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl
  isplitl [HS8]
  · iexists _; isplitr; swap; · iexact HS8
    ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl
  iexists _; isplitr; swap; · iexact HS9
  ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl

end Cert.KernelIdeal.Own

end
-- ==== Proof.KernelIdeal.RunD.lean ====
/- The body's run at the last point: one block of the second phase, then the final store. -/
module

public import proofs.«01_k».proof.Proof.KernelIdeal.Body

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1600000 in
/-- The body's run at the last point: one block of the second phase, then the final store. -/
theorem runD (c : Dev nD) (i : grid0.Coords) (arg2 : Memref sig .tc .vmem S1x1x16384 .i32) (harg2 : arg2.IsWhole) (arg3 : Memref sig .tc .vmem S1x16 .i32) (harg3 : arg3.IsWhole) (arg4 : Memref sig .tc .vmem S16384x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S16x128 .f32) (harg11 : arg11.IsWhole) (arg12 : Memref sig .tc .vmem S8x128 .f32) (harg12 : arg12.IsWhole) (arg13 : Memref sig .tc .vmem S8x128 .f32) (harg13 : arg13.IsWhole) (arg14 : Memref sig .tc .vmem S16x128 .f32) (harg14 : arg14.IsWhole) (arg15 : Memref sig .tc .vmem S16x1 .f32) (harg15 : arg15.IsWhole) (arg16 : Memref sig .tc .vmem S16x1 .f32) (harg16 : arg16.IsWhole) (arg17 : Memref sig .tc .vmem S16x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S16x128 .f32) (harg20 : arg20.IsWhole) (arg21 : Memref sig .tc .vmem S128x128 .f32) (harg21 : arg21.IsWhole) (hc0 : ¬atStart i) (hc1 : ¬inFirst i) (hc2 : ¬atMid i) (hc3 : inSecond i) (hc4 : atEnd i)
    (x0 : Vec F S1x1x16384 .i32) (x1 : Vec F S1x16 .i32) (x2 : Vec F S16384x128 .f32) (x3 : Vec F S1x128 .f32) (x4 : Vec F S1x128 .f32) (x5 : Vec F S128x128 .f32) (x6 : Vec F S128x128 .f32) (x7 : Vec F S1x128 .f32) (x8 : Vec F S1x128 .f32) (n : Norm F) (s : Carry F) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare s.sum ∗ owns (c : Thread nD τ) arg13 fullShare s.sq ∗ owns (c : Thread nD τ) arg14 fullShare s.fl ∗ owns (c : Thread nD τ) arg15 fullShare s.mx ∗ owns (c : Thread nD τ) arg16 fullShare s.den ∗ owns (c : Thread nD τ) arg17 fullShare s.acc ∗ owns (c : Thread nD τ) arg18 fullShare n.sc ∗ owns (c : Thread nD τ) arg19 fullShare n.sh ∗ owns (c : Thread nD τ) arg20 fullShare n.fv ∗ owns (c : Thread nD τ) arg21 fullShare n.wu
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (readout n (attend x0 x2 x8 n s)) ∗ owns (c : Thread nD τ) arg12 fullShare (attend x0 x2 x8 n s).sum ∗ owns (c : Thread nD τ) arg13 fullShare (attend x0 x2 x8 n s).sq ∗ owns (c : Thread nD τ) arg14 fullShare (attend x0 x2 x8 n s).fl ∗ owns (c : Thread nD τ) arg15 fullShare (attend x0 x2 x8 n s).mx ∗ owns (c : Thread nD τ) arg16 fullShare (attend x0 x2 x8 n s).den ∗ owns (c : Thread nD τ) arg17 fullShare (attend x0 x2 x8 n s).acc ∗ owns (c : Thread nD τ) arg18 fullShare n.sc ∗ owns (c : Thread nD τ) arg19 fullShare n.sh ∗ owns (c : Thread nD τ) arg20 fullShare n.fv ∗ owns (c : Thread nD τ) arg21 fullShare n.wu) -∗ K ⟨⟩))
      ⊢ wp frame (wpE (defs₀ (F := F)) Variants.none c none) E (cc0__attn_readout_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__attn_readout_kernel_eq_skeleton]; unfold cc0__attn_readout_kernel_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2; obtain rfl := harg15.eq_unread hfs3; obtain rfl := harg16.eq_unread hfs4; obtain rfl := harg17.eq_unread hfs5; obtain rfl := harg18.eq_unread hfs6; obtain rfl := harg19.eq_unread hfs7; obtain rfl := harg20.eq_unread hfs8; obtain rfl := harg21.eq_unread hfs9
  sl_exec (disch := first | sl_exact hc0 | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl
  isplitl [HS0]
  · iexists _; isplitr; · ipureintro; exact harg12.read_unread _
    iexact HS0
  isplitl [HS1]
  · iexists _; isplitr; · ipureintro; exact harg13.read_unread _
    iexact HS1
  isplitl [HS2]
  · iexists _; isplitr; · ipureintro; exact harg14.read_unread _
    iexact HS2
  isplitl [HS3]
  · iexists _; isplitr; swap; · iexact HS3
    ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl
  isplitl [HS4]
  · iexists _; isplitr; swap; · iexact HS4
    ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl
  isplitl [HS5]
  · iexists _; isplitr; swap; · iexact HS5
    ipureintro; refine (View.read_writes_full _ _ _ _ _).trans ?_; sl_unfold_words; (try simp only [load_S1x1x16384, reload_S1x1x16384, load_S1x16, reload_S1x16, load_S16384x128, reload_S16384x128, load_S1x128, reload_S1x128, load_S128x128, reload_S128x128, load_S16x128, reload_S16x128, load_S8x128, reload_S8x128, load_S16x1, reload_S16x1]); rfl
  isplitl [HS6]
  · iexists _; isplitr; · ipureintro; exact harg18.read_unread _
    iexact HS6
  isplitl [HS7]
  · iexists _; isplitr; · ipureintro; exact harg19.read_unread _
    iexact HS7
  isplitl [HS8]
  · iexists _; isplitr; · ipureintro; exact harg20.read_unread _
    iexact HS8
  iexists _; isplitr; · ipureintro; exact harg21.read_unread _
  iexact HS9

end Cert.KernelIdeal.Own

end
-- ==== Proof.KernelIdeal.Launch.lean ====
/- The run of the whole grid: what the scratch buffers hold between the points, the pipeline's proof data, the body's
   obligation at each of the four points, and the frame. -/
module

public import proofs.«01_k».proof.Proof.KernelIdeal.RunA
public import proofs.«01_k».proof.Proof.KernelIdeal.RunB
public import proofs.«01_k».proof.Proof.KernelIdeal.RunC
public import proofs.«01_k».proof.Proof.KernelIdeal.RunD
public import Idealize.ShloMosaic.Lib.Claim
public import Idealize.ShloMosaic.Lib.Pipeline.Value

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The state after each point -/

/-- After the first point, -/
def after1 (c : Dev nD) : Carry F := gather (grid0.coords t0_0) (iblk m c 1 t0_0) (iblk m c 2 t0_0) start
/-- after the second, -/
def after2 (c : Dev nD) : Carry F := gather (grid0.coords t0_1) (iblk m c 1 t0_1) (iblk m c 2 t0_1) (after1 m c)
/-- what the third point derives from the sums, -/
def normed (c : Dev nD) : Norm F :=
  norm (iblk m c 3 t0_2) (iblk m c 4 t0_2) (iblk m c 5 t0_2) (iblk m c 6 t0_2) (iblk m c 7 t0_2) (after2 m c)
/-- the state it leaves, -/
def after3 (c : Dev nD) : Carry F := attend (iblk m c 0 t0_2) (iblk m c 2 t0_2) (iblk m c 8 t0_2) (normed m c) (after2 m c)
/-- the last point's state -/
def after4 (c : Dev nD) : Carry F := attend (iblk m c 0 t0_3) (iblk m c 2 t0_3) (iblk m c 8 t0_3) (normed m c) (after3 m c)
/-- and what it stores. -/
def result (c : Dev nD) : Vec F S16x128 .f32 := readout (normed m c) (after4 m c)

/-! ## The pipeline's proof data -/

/-- The scratch buffers before each point: at anything before the first, then at the state the point before left. -/
def PhiS (c : Dev nD) : ℕ → sProp 𝕄
  | 0 => Pipeline.ΦA spec0 c
  | 1 => iprop((owns (c : Thread nD τ) (Memref.whole cc0_scratch0 : Memref sig .tc .vmem S8x128 .f32) fullShare (after1 m c).sum ∗ owns (c : Thread nD τ) (Memref.whole cc0_scratch1 : Memref sig .tc .vmem S8x128 .f32) fullShare (after1 m c).sq ∗ owns (c : Thread nD τ) (Memref.whole cc0_scratch2 : Memref sig .tc .vmem S16x128 .f32) fullShare (after1 m c).fl ∗ owns (c : Thread nD τ) (Memref.whole cc0_scratch3 : Memref sig .tc .vmem S16x1 .f32) fullShare (after1 m c).mx ∗ owns (c : Thread nD τ) (Memref.whole cc0_scratch4 : Memref sig .tc .vmem S16x1 .f32) fullShare (after1 m c).den ∗ owns (c : Thread nD τ) (Memref.whole cc0_scratch5 : Memref sig .tc .vmem S16x128 .f32) fullShare (after1 m c).acc ∗ (∃ d, owns (c : Thread nD τ) (Memref.whole cc0_scratch6 : Memref sig .tc .vmem S1x128 .f32) fullShare d) ∗ (∃ d, owns (c : Thread nD τ) (Memref.whole cc0_scratch7 : Memref sig .tc .vmem S1x128 .f32) fullShare d) ∗ (∃ d, owns (c : Thread nD τ) (Memref.whole cc0_scratch8 : Memref sig .tc .vmem S16x128 .f32) fullShare d) ∗ (∃ d, owns (c : Thread nD τ) (Memref.whole cc0_scratch9 : Memref sig .tc .vmem S128x128 .f32) fullShare d)) ∗ (∃ r, prngReg c r))
  | 2 => iprop((owns (c : Thread nD τ) (Memref.whole cc0_scratch0 : Memref sig .tc .vmem S8x128 .f32) fullShare (after2 m c).sum ∗ owns (c : Thread nD τ) (Memref.whole cc0_scratch1 : Memref sig .tc .vmem S8x128 .f32) fullShare (after2 m c).sq ∗ owns (c : Thread nD τ) (Memref.whole cc0_scratch2 : Memref sig .tc .vmem S16x128 .f32) fullShare (after2 m c).fl ∗ owns (c : Thread nD τ) (Memref.whole cc0_scratch3 : Memref sig .tc .vmem S16x1 .f32) fullShare (after2 m c).mx ∗ owns (c : Thread nD τ) (Memref.whole cc0_scratch4 : Memref sig .tc .vmem S16x1 .f32) fullShare (after2 m c).den ∗ owns (c : Thread nD τ) (Memref.whole cc0_scratch5 : Memref sig .tc .vmem S16x128 .f32) fullShare (after2 m c).acc ∗ (∃ d, owns (c : Thread nD τ) (Memref.whole cc0_scratch6 : Memref sig .tc .vmem S1x128 .f32) fullShare d) ∗ (∃ d, owns (c : Thread nD τ) (Memref.whole cc0_scratch7 : Memref sig .tc .vmem S1x128 .f32) fullShare d) ∗ (∃ d, owns (c : Thread nD τ) (Memref.whole cc0_scratch8 : Memref sig .tc .vmem S16x128 .f32) fullShare d) ∗ (∃ d, owns (c : Thread nD τ) (Memref.whole cc0_scratch9 : Memref sig .tc .vmem S128x128 .f32) fullShare d)) ∗ (∃ r, prngReg c r))
  | 3 => iprop((owns (c : Thread nD τ) (Memref.whole cc0_scratch0 : Memref sig .tc .vmem S8x128 .f32) fullShare (after3 m c).sum ∗ owns (c : Thread nD τ) (Memref.whole cc0_scratch1 : Memref sig .tc .vmem S8x128 .f32) fullShare (after3 m c).sq ∗ owns (c : Thread nD τ) (Memref.whole cc0_scratch2 : Memref sig .tc .vmem S16x128 .f32) fullShare (after3 m c).fl ∗ owns (c : Thread nD τ) (Memref.whole cc0_scratch3 : Memref sig .tc .vmem S16x1 .f32) fullShare (after3 m c).mx ∗ owns (c : Thread nD τ) (Memref.whole cc0_scratch4 : Memref sig .tc .vmem S16x1 .f32) fullShare (after3 m c).den ∗ owns (c : Thread nD τ) (Memref.whole cc0_scratch5 : Memref sig .tc .vmem S16x128 .f32) fullShare (after3 m c).acc ∗ owns (c : Thread nD τ) (Memref.whole cc0_scratch6 : Memref sig .tc .vmem S1x128 .f32) fullShare (normed m c).sc ∗ owns (c : Thread nD τ) (Memref.whole cc0_scratch7 : Memref sig .tc .vmem S1x128 .f32) fullShare (normed m c).sh ∗ owns (c : Thread nD τ) (Memref.whole cc0_scratch8 : Memref sig .tc .vmem S16x128 .f32) fullShare (normed m c).fv ∗ owns (c : Thread nD τ) (Memref.whole cc0_scratch9 : Memref sig .tc .vmem S128x128 .f32) fullShare (normed m c).wu) ∗ (∃ r, prngReg c r))
  | _ => iprop((owns (c : Thread nD τ) (Memref.whole cc0_scratch0 : Memref sig .tc .vmem S8x128 .f32) fullShare (after4 m c).sum ∗ owns (c : Thread nD τ) (Memref.whole cc0_scratch1 : Memref sig .tc .vmem S8x128 .f32) fullShare (after4 m c).sq ∗ owns (c : Thread nD τ) (Memref.whole cc0_scratch2 : Memref sig .tc .vmem S16x128 .f32) fullShare (after4 m c).fl ∗ owns (c : Thread nD τ) (Memref.whole cc0_scratch3 : Memref sig .tc .vmem S16x1 .f32) fullShare (after4 m c).mx ∗ owns (c : Thread nD τ) (Memref.whole cc0_scratch4 : Memref sig .tc .vmem S16x1 .f32) fullShare (after4 m c).den ∗ owns (c : Thread nD τ) (Memref.whole cc0_scratch5 : Memref sig .tc .vmem S16x128 .f32) fullShare (after4 m c).acc ∗ owns (c : Thread nD τ) (Memref.whole cc0_scratch6 : Memref sig .tc .vmem S1x128 .f32) fullShare (normed m c).sc ∗ owns (c : Thread nD τ) (Memref.whole cc0_scratch7 : Memref sig .tc .vmem S1x128 .f32) fullShare (normed m c).sh ∗ owns (c : Thread nD τ) (Memref.whole cc0_scratch8 : Memref sig .tc .vmem S16x128 .f32) fullShare (normed m c).fv ∗ owns (c : Thread nD τ) (Memref.whole cc0_scratch9 : Memref sig .tc .vmem S128x128 .f32) fullShare (normed m c).wu) ∗ (∃ r, prngReg c r))

theorem PhiS_1 (c : Dev nD) : PhiS m c 1 = iprop((owns (c : Thread nD τ) (Memref.whole cc0_scratch0 : Memref sig .tc .vmem S8x128 .f32) fullShare (after1 m c).sum ∗ owns (c : Thread nD τ) (Memref.whole cc0_scratch1 : Memref sig .tc .vmem S8x128 .f32) fullShare (after1 m c).sq ∗ owns (c : Thread nD τ) (Memref.whole cc0_scratch2 : Memref sig .tc .vmem S16x128 .f32) fullShare (after1 m c).fl ∗ owns (c : Thread nD τ) (Memref.whole cc0_scratch3 : Memref sig .tc .vmem S16x1 .f32) fullShare (after1 m c).mx ∗ owns (c : Thread nD τ) (Memref.whole cc0_scratch4 : Memref sig .tc .vmem S16x1 .f32) fullShare (after1 m c).den ∗ owns (c : Thread nD τ) (Memref.whole cc0_scratch5 : Memref sig .tc .vmem S16x128 .f32) fullShare (after1 m c).acc ∗ (∃ d, owns (c : Thread nD τ) (Memref.whole cc0_scratch6 : Memref sig .tc .vmem S1x128 .f32) fullShare d) ∗ (∃ d, owns (c : Thread nD τ) (Memref.whole cc0_scratch7 : Memref sig .tc .vmem S1x128 .f32) fullShare d) ∗ (∃ d, owns (c : Thread nD τ) (Memref.whole cc0_scratch8 : Memref sig .tc .vmem S16x128 .f32) fullShare d) ∗ (∃ d, owns (c : Thread nD τ) (Memref.whole cc0_scratch9 : Memref sig .tc .vmem S128x128 .f32) fullShare d)) ∗ (∃ r, prngReg c r)) := rfl
theorem PhiS_2 (c : Dev nD) : PhiS m c 2 = iprop((owns (c : Thread nD τ) (Memref.whole cc0_scratch0 : Memref sig .tc .vmem S8x128 .f32) fullShare (after2 m c).sum ∗ owns (c : Thread nD τ) (Memref.whole cc0_scratch1 : Memref sig .tc .vmem S8x128 .f32) fullShare (after2 m c).sq ∗ owns (c : Thread nD τ) (Memref.whole cc0_scratch2 : Memref sig .tc .vmem S16x128 .f32) fullShare (after2 m c).fl ∗ owns (c : Thread nD τ) (Memref.whole cc0_scratch3 : Memref sig .tc .vmem S16x1 .f32) fullShare (after2 m c).mx ∗ owns (c : Thread nD τ) (Memref.whole cc0_scratch4 : Memref sig .tc .vmem S16x1 .f32) fullShare (after2 m c).den ∗ owns (c : Thread nD τ) (Memref.whole cc0_scratch5 : Memref sig .tc .vmem S16x128 .f32) fullShare (after2 m c).acc ∗ (∃ d, owns (c : Thread nD τ) (Memref.whole cc0_scratch6 : Memref sig .tc .vmem S1x128 .f32) fullShare d) ∗ (∃ d, owns (c : Thread nD τ) (Memref.whole cc0_scratch7 : Memref sig .tc .vmem S1x128 .f32) fullShare d) ∗ (∃ d, owns (c : Thread nD τ) (Memref.whole cc0_scratch8 : Memref sig .tc .vmem S16x128 .f32) fullShare d) ∗ (∃ d, owns (c : Thread nD τ) (Memref.whole cc0_scratch9 : Memref sig .tc .vmem S128x128 .f32) fullShare d)) ∗ (∃ r, prngReg c r)) := rfl
theorem PhiS_3 (c : Dev nD) : PhiS m c 3 = iprop((owns (c : Thread nD τ) (Memref.whole cc0_scratch0 : Memref sig .tc .vmem S8x128 .f32) fullShare (after3 m c).sum ∗ owns (c : Thread nD τ) (Memref.whole cc0_scratch1 : Memref sig .tc .vmem S8x128 .f32) fullShare (after3 m c).sq ∗ owns (c : Thread nD τ) (Memref.whole cc0_scratch2 : Memref sig .tc .vmem S16x128 .f32) fullShare (after3 m c).fl ∗ owns (c : Thread nD τ) (Memref.whole cc0_scratch3 : Memref sig .tc .vmem S16x1 .f32) fullShare (after3 m c).mx ∗ owns (c : Thread nD τ) (Memref.whole cc0_scratch4 : Memref sig .tc .vmem S16x1 .f32) fullShare (after3 m c).den ∗ owns (c : Thread nD τ) (Memref.whole cc0_scratch5 : Memref sig .tc .vmem S16x128 .f32) fullShare (after3 m c).acc ∗ owns (c : Thread nD τ) (Memref.whole cc0_scratch6 : Memref sig .tc .vmem S1x128 .f32) fullShare (normed m c).sc ∗ owns (c : Thread nD τ) (Memref.whole cc0_scratch7 : Memref sig .tc .vmem S1x128 .f32) fullShare (normed m c).sh ∗ owns (c : Thread nD τ) (Memref.whole cc0_scratch8 : Memref sig .tc .vmem S16x128 .f32) fullShare (normed m c).fv ∗ owns (c : Thread nD τ) (Memref.whole cc0_scratch9 : Memref sig .tc .vmem S128x128 .f32) fullShare (normed m c).wu) ∗ (∃ r, prngReg c r)) := rfl
theorem PhiS_4 (c : Dev nD) : PhiS m c 4 = iprop((owns (c : Thread nD τ) (Memref.whole cc0_scratch0 : Memref sig .tc .vmem S8x128 .f32) fullShare (after4 m c).sum ∗ owns (c : Thread nD τ) (Memref.whole cc0_scratch1 : Memref sig .tc .vmem S8x128 .f32) fullShare (after4 m c).sq ∗ owns (c : Thread nD τ) (Memref.whole cc0_scratch2 : Memref sig .tc .vmem S16x128 .f32) fullShare (after4 m c).fl ∗ owns (c : Thread nD τ) (Memref.whole cc0_scratch3 : Memref sig .tc .vmem S16x1 .f32) fullShare (after4 m c).mx ∗ owns (c : Thread nD τ) (Memref.whole cc0_scratch4 : Memref sig .tc .vmem S16x1 .f32) fullShare (after4 m c).den ∗ owns (c : Thread nD τ) (Memref.whole cc0_scratch5 : Memref sig .tc .vmem S16x128 .f32) fullShare (after4 m c).acc ∗ owns (c : Thread nD τ) (Memref.whole cc0_scratch6 : Memref sig .tc .vmem S1x128 .f32) fullShare (normed m c).sc ∗ owns (c : Thread nD τ) (Memref.whole cc0_scratch7 : Memref sig .tc .vmem S1x128 .f32) fullShare (normed m c).sh ∗ owns (c : Thread nD τ) (Memref.whole cc0_scratch8 : Memref sig .tc .vmem S16x128 .f32) fullShare (normed m c).fv ∗ owns (c : Thread nD τ) (Memref.whole cc0_scratch9 : Memref sig .tc .vmem S128x128 .f32) fullShare (normed m c).wu) ∗ (∃ r, prngReg c r)) := rfl

/-- The region's own invariant with each scratch buffer owned at something. -/
theorem PhiA_eq (c : Dev nD) : (Pipeline.ΦA spec0 c : sProp 𝕄) = iprop(((∃ d, owns (c : Thread nD τ) (Memref.whole cc0_scratch0 : Memref sig .tc .vmem S8x128 .f32) fullShare d) ∗ (∃ d, owns (c : Thread nD τ) (Memref.whole cc0_scratch1 : Memref sig .tc .vmem S8x128 .f32) fullShare d) ∗ (∃ d, owns (c : Thread nD τ) (Memref.whole cc0_scratch2 : Memref sig .tc .vmem S16x128 .f32) fullShare d) ∗ (∃ d, owns (c : Thread nD τ) (Memref.whole cc0_scratch3 : Memref sig .tc .vmem S16x1 .f32) fullShare d) ∗ (∃ d, owns (c : Thread nD τ) (Memref.whole cc0_scratch4 : Memref sig .tc .vmem S16x1 .f32) fullShare d) ∗ (∃ d, owns (c : Thread nD τ) (Memref.whole cc0_scratch5 : Memref sig .tc .vmem S16x128 .f32) fullShare d) ∗ (∃ d, owns (c : Thread nD τ) (Memref.whole cc0_scratch6 : Memref sig .tc .vmem S1x128 .f32) fullShare d) ∗ (∃ d, owns (c : Thread nD τ) (Memref.whole cc0_scratch7 : Memref sig .tc .vmem S1x128 .f32) fullShare d) ∗ (∃ d, owns (c : Thread nD τ) (Memref.whole cc0_scratch8 : Memref sig .tc .vmem S16x128 .f32) fullShare d) ∗ (∃ d, owns (c : Thread nD τ) (Memref.whole cc0_scratch9 : Memref sig .tc .vmem S128x128 .f32) fullShare d)) ∗ (∃ r, prngReg c r)) := by
  unfold Pipeline.ΦA; rw [scopedRest0_eq]; simp only [owns_whole]; try rfl

/-- The pipeline's proof data: every input's buffer keeps its block, the output's ends at the result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => result m c
  Φ t := PhiS m c t.val
  q _ := fullShare
  owed _ := 0

/-- The proof data's arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = result m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem leaves0_0 (c : Dev nD) (t : Fin cfg0.N) :
    (dats m 0 c).leavesExact 0 t = owns (c : Thread nD τ) (st0_0 t) fullShare (iblk m c 0 t) := by
  unfold Dat.leavesExact; rw [show cfg0.idle 0 (cfg0.grid.coords t) = false from rfl, after0_0]
theorem leaves0_1 (c : Dev nD) (t : Fin cfg0.N) :
    (dats m 0 c).leavesExact 1 t = owns (c : Thread nD τ) (st0_1 t) fullShare (iblk m c 1 t) := by
  unfold Dat.leavesExact; rw [show cfg0.idle 1 (cfg0.grid.coords t) = false from rfl, after0_1]
theorem leaves0_2 (c : Dev nD) (t : Fin cfg0.N) :
    (dats m 0 c).leavesExact 2 t = owns (c : Thread nD τ) (st0_2 t) fullShare (iblk m c 2 t) := by
  unfold Dat.leavesExact; rw [show cfg0.idle 2 (cfg0.grid.coords t) = false from rfl, after0_2]
theorem leaves0_3 (c : Dev nD) (t : Fin cfg0.N) :
    (dats m 0 c).leavesExact 3 t = owns (c : Thread nD τ) (st0_3 t) fullShare (iblk m c 3 t) := by
  unfold Dat.leavesExact; rw [show cfg0.idle 3 (cfg0.grid.coords t) = false from rfl, after0_3]
theorem leaves0_4 (c : Dev nD) (t : Fin cfg0.N) :
    (dats m 0 c).leavesExact 4 t = owns (c : Thread nD τ) (st0_4 t) fullShare (iblk m c 4 t) := by
  unfold Dat.leavesExact; rw [show cfg0.idle 4 (cfg0.grid.coords t) = false from rfl, after0_4]
theorem leaves0_5 (c : Dev nD) (t : Fin cfg0.N) :
    (dats m 0 c).leavesExact 5 t = owns (c : Thread nD τ) (st0_5 t) fullShare (iblk m c 5 t) := by
  unfold Dat.leavesExact; rw [show cfg0.idle 5 (cfg0.grid.coords t) = false from rfl, after0_5]
theorem leaves0_6 (c : Dev nD) (t : Fin cfg0.N) :
    (dats m 0 c).leavesExact 6 t = owns (c : Thread nD τ) (st0_6 t) fullShare (iblk m c 6 t) := by
  unfold Dat.leavesExact; rw [show cfg0.idle 6 (cfg0.grid.coords t) = false from rfl, after0_6]
theorem leaves0_7 (c : Dev nD) (t : Fin cfg0.N) :
    (dats m 0 c).leavesExact 7 t = owns (c : Thread nD τ) (st0_7 t) fullShare (iblk m c 7 t) := by
  unfold Dat.leavesExact; rw [show cfg0.idle 7 (cfg0.grid.coords t) = false from rfl, after0_7]
theorem leaves0_8 (c : Dev nD) (t : Fin cfg0.N) :
    (dats m 0 c).leavesExact 8 t = owns (c : Thread nD τ) (st0_8 t) fullShare (iblk m c 8 t) := by
  unfold Dat.leavesExact; rw [show cfg0.idle 8 (cfg0.grid.coords t) = false from rfl, after0_8]

/-! ## The body's obligation -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)

set_option maxHeartbeats 4000000 in
/-- The body at point 0. -/
theorem sound_A (c : Dev nD) :
    bodyPre m c t0_0 ⊢ wp frame (wpE (defs₀ (F := F)) Variants.none c none) Set.univ (bodyAt0 t0_0) (fun _ => bodyPost m c t0_0) := by
  unfold bodyPre bodyPost bodyAt0
  simp only [before0_0, leaves0_0, before0_1, leaves0_1, before0_2, leaves0_2, before0_3, leaves0_3, before0_4, leaves0_4, before0_5, leaves0_5, before0_6, leaves0_6, before0_7, leaves0_7, before0_8, leaves0_8]
  rw [Dat.leavesExact_idle (dats m 0 c) 9 t0_0 (by decide +kernel) (by decide +kernel)]
  rw [show (dats m 0 c).owesAt () t0_0.succ = (dats m 0 c).owesAt () t0_0.castSucc from rfl]
  rw [show (dats m 0 c).Φ t0_0.succ = PhiS m c 1 from rfl, PhiS_1]
  rw [show (dats m 0 c).Φ t0_0.castSucc = Pipeline.ΦA spec0 c from rfl, PhiA_eq]
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runA c (grid0.coords t0_0) _ _ _ _ _ _ _ _ _ _ _ _ _ _ _ _ _ _ _ _ _ _ _ _ _ _ _ _ _ _ _ _ _ _ _ _ _ _ _ _ (by decide : atStart (grid0.coords t0_0)) (by decide : inFirst (grid0.coords t0_0)) (by decide : ¬atMid (grid0.coords t0_0)) (by decide : ¬inSecond (grid0.coords t0_0)) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) ((dats m 0 c).before 9 t0_0 d9)  Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 4000000 in
/-- The body at point 1. -/
theorem sound_B (c : Dev nD) :
    bodyPre m c t0_1 ⊢ wp frame (wpE (defs₀ (F := F)) Variants.none c none) Set.univ (bodyAt0 t0_1) (fun _ => bodyPost m c t0_1) := by
  unfold bodyPre bodyPost bodyAt0
  simp only [before0_0, leaves0_0, before0_1, leaves0_1, before0_2, leaves0_2, before0_3, leaves0_3, before0_4, leaves0_4, before0_5, leaves0_5, before0_6, leaves0_6, before0_7, leaves0_7, before0_8, leaves0_8]
  rw [Dat.leavesExact_idle (dats m 0 c) 9 t0_1 (by decide +kernel) (by decide +kernel)]
  rw [show (dats m 0 c).owesAt () t0_1.succ = (dats m 0 c).owesAt () t0_1.castSucc from rfl]
  rw [show (dats m 0 c).Φ t0_1.succ = PhiS m c 2 from rfl, PhiS_2]
  rw [show (dats m 0 c).Φ t0_1.castSucc = PhiS m c 1 from rfl, PhiS_1]
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runB c (grid0.coords t0_1) _ _ _ _ _ _ _ _ _ _ _ _ _ _ _ _ _ _ _ _ _ _ _ _ _ _ _ _ _ _ _ _ _ _ _ _ _ _ _ _ (by decide : ¬atStart (grid0.coords t0_1)) (by decide : inFirst (grid0.coords t0_1)) (by decide : ¬atMid (grid0.coords t0_1)) (by decide : ¬inSecond (grid0.coords t0_1)) (iblk m c 0 t0_1) (iblk m c 1 t0_1) (iblk m c 2 t0_1) (iblk m c 3 t0_1) (iblk m c 4 t0_1) (iblk m c 5 t0_1) (iblk m c 6 t0_1) (iblk m c 7 t0_1) (iblk m c 8 t0_1) ((dats m 0 c).before 9 t0_1 d9) (after1 m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 4000000 in
/-- The body at point 2. -/
theorem sound_C (c : Dev nD) :
    bodyPre m c t0_2 ⊢ wp frame (wpE (defs₀ (F := F)) Variants.none c none) Set.univ (bodyAt0 t0_2) (fun _ => bodyPost m c t0_2) := by
  unfold bodyPre bodyPost bodyAt0
  simp only [before0_0, leaves0_0, before0_1, leaves0_1, before0_2, leaves0_2, before0_3, leaves0_3, before0_4, leaves0_4, before0_5, leaves0_5, before0_6, leaves0_6, before0_7, leaves0_7, before0_8, leaves0_8]
  rw [Dat.leavesExact_idle (dats m 0 c) 9 t0_2 (by decide +kernel) (by decide +kernel)]
  rw [show (dats m 0 c).owesAt () t0_2.succ = (dats m 0 c).owesAt () t0_2.castSucc from rfl]
  rw [show (dats m 0 c).Φ t0_2.succ = PhiS m c 3 from rfl, PhiS_3]
  rw [show (dats m 0 c).Φ t0_2.castSucc = PhiS m c 2 from rfl, PhiS_2]
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runC c (grid0.coords t0_2) _ _ _ _ _ _ _ _ _ _ _ _ _ _ _ _ _ _ _ _ _ _ _ _ _ _ _ _ _ _ _ _ _ _ _ _ _ _ _ _ (by decide : ¬atStart (grid0.coords t0_2)) (by decide : ¬inFirst (grid0.coords t0_2)) (by decide : atMid (grid0.coords t0_2)) (by decide : inSecond (grid0.coords t0_2)) (by decide : ¬atEnd (grid0.coords t0_2)) (iblk m c 0 t0_2) (iblk m c 1 t0_2) (iblk m c 2 t0_2) (iblk m c 3 t0_2) (iblk m c 4 t0_2) (iblk m c 5 t0_2) (iblk m c 6 t0_2) (iblk m c 7 t0_2) (iblk m c 8 t0_2) ((dats m 0 c).before 9 t0_2 d9) (after2 m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _; iexact H9

set_option maxHeartbeats 4000000 in
/-- The body at point 3. -/
theorem sound_D (c : Dev nD) :
    bodyPre m c t0_3 ⊢ wp frame (wpE (defs₀ (F := F)) Variants.none c none) Set.univ (bodyAt0 t0_3) (fun _ => bodyPost m c t0_3) := by
  unfold bodyPre bodyPost bodyAt0
  simp only [before0_0, leaves0_0, before0_1, leaves0_1, before0_2, leaves0_2, before0_3, leaves0_3, before0_4, leaves0_4, before0_5, leaves0_5, before0_6, leaves0_6, before0_7, leaves0_7, before0_8, leaves0_8]
  rw [show (dats m 0 c).leavesExact 9 t0_3 = owns (c : Thread nD τ) (st0_9 t0_3) fullShare (result m c) from by
    unfold Dat.leavesExact; rw [show cfg0.idle 9 (cfg0.grid.coords t0_3) = false from by decide +kernel, after0_9]]
  rw [show (dats m 0 c).owesAt () t0_3.succ = (dats m 0 c).owesAt () t0_3.castSucc from rfl]
  rw [show (dats m 0 c).Φ t0_3.succ = PhiS m c 4 from rfl, PhiS_4]
  rw [show (dats m 0 c).Φ t0_3.castSucc = PhiS m c 3 from rfl, PhiS_3]
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runD c (grid0.coords t0_3) _ _ _ _ _ _ _ _ _ _ _ _ _ _ _ _ _ _ _ _ _ _ _ _ _ _ _ _ _ _ _ _ _ _ _ _ _ _ _ _ (by decide : ¬atStart (grid0.coords t0_3)) (by decide : ¬inFirst (grid0.coords t0_3)) (by decide : ¬atMid (grid0.coords t0_3)) (by decide : inSecond (grid0.coords t0_3)) (by decide : atEnd (grid0.coords t0_3)) (iblk m c 0 t0_3) (iblk m c 1 t0_3) (iblk m c 2 t0_3) (iblk m c 3 t0_3) (iblk m c 4 t0_3) (iblk m c 5 t0_3) (iblk m c 6 t0_3) (iblk m c 7 t0_3) (iblk m c 8 t0_3) (normed m c) (after3 m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  rcases fin_N0 t with rfl | rfl | rfl | rfl
  · exact sound_A m c
  · exact sound_B m c
  · exact sound_C m c
  · exact sound_D m c

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The region's invariant is the one before the first point, -/
theorem hin (c : Dev nD) : Pipeline.ΦA spec0 c ⊢ (dats m 0 c).Φ 0 := by
  rw [show (dats m 0 c).Φ 0 = Pipeline.ΦA spec0 c from rfl]
  try exact Idealize.SL.BI.Entails.refl _

/-- and the one after the last point gives it back. -/
theorem hout (c : Dev nD) : (dats m 0 c).Φ (Fin.last cfg0.N) ⊢ Pipeline.ΦA spec0 c := by
  rw [show (dats m 0 c).Φ (Fin.last cfg0.N) = PhiS m c 4 from rfl, PhiS_4, PhiA_eq]
  iintro ⟨⟨HS0, HS1, HS2, HS3, HS4, HS5, HS6, HS7, HS8, HS9⟩, Hg⟩
  isplitl [HS0 HS1 HS2 HS3 HS4 HS5 HS6 HS7 HS8 HS9]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9
  iexact Hg

/-! ## The run and the frame -/

set_option backward.isDefEq.respectTransparency.types false in
/-- The program runs, every array of the pipeline ends at what the proof data says, and every counter ends at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Own

end
-- ==== Proof.Maths.lean ====
/- The plain mathematics both programs share: sums over the extended reals, the variance, and the softmax taken block by
   block. Nothing here mentions a program. -/
module

public import Idealize.ShloMosaic.PureOps.Ideal
public import Idealize.ShloMosaic.PureOps.Ideal.Laws
public import Idealize.ShloMosaic.Lib.IdealHost

@[expose] public section

noncomputable section

namespace Cert.Maths

open Idealize.ShloMosaic

/-! ## The printed constants -/

/-- The row count as a float. -/
theorem rows_word : Ideal.ofBits .f32 0x47000000#32 = ((32768 : ℝ) : EReal) := by
  simp [Ideal.ofBits, Ideal.ieee, ← EReal.coe_mul]; norm_num

/-- The float word of minus infinity. -/
theorem bot_word : Ideal.ofBits .f32 0xFF800000#32 = (⊥ : EReal) := by
  simp [Ideal.ofBits, Ideal.ieee]

/-- The float word of plus infinity. -/
theorem top_word : Ideal.ofBits .f32 0x7F800000#32 = (⊤ : EReal) := by
  simp [Ideal.ofBits, Ideal.ieee]

/-- The number added to the variance. -/
def eps : ℝ := (10995116 : ℝ) * (2 : ℝ) ^ (-40 : ℤ)

/-- The float word of it. -/
theorem eps_word : Ideal.ofBits .f32 0x3727C5AC#32 = (eps : EReal) := by
  simp [Ideal.ofBits, Ideal.ieee, eps]

/-- It is positive. -/
theorem eps_pos : 0 < eps := by unfold eps; positivity

/-! ## Sums -/

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor distributes over a sum of a real and anything. -/
theorem add_mul_coe (a : ℝ) (s : EReal) (r : ℝ) : ((a : EReal) + s) * (r : EReal) = (a : EReal) * r + s * r := by
  induction s with
  | coe s => norm_cast; ring
  | top =>
    rcases lt_trichotomy r 0 with h | rfl | h
    · rw [EReal.coe_add_top, EReal.top_mul_coe_of_neg h, EReal.add_bot]
    · simp
    · rw [EReal.coe_add_top, EReal.top_mul_coe_of_pos h, ← EReal.coe_mul, EReal.coe_add_top]
  | bot =>
    rcases lt_trichotomy r 0 with h | rfl | h
    · rw [EReal.add_bot, EReal.bot_mul_coe_of_neg h, ← EReal.coe_mul, EReal.coe_add_top]
    · simp
    · rw [EReal.add_bot, EReal.bot_mul_coe_of_pos h, EReal.add_bot]

/-- The same under a sum. -/
theorem sum_add_mul_coe {ι : Type} [Fintype ι] (a : ι → ℝ) (s : ι → EReal) (r : ι → ℝ) :
    ∑ k, ((a k : EReal) + s k) * (r k : EReal) = ∑ k, (a k : EReal) * r k + ∑ k, s k * (r k : EReal) := by
  rw [← Finset.sum_add_distrib]
  exact Finset.sum_congr rfl fun k _ => add_mul_coe _ _ _

/-- Anything times a sum of nonnegative reals. -/
theorem mul_sum_coe {ι : Type} (s : Finset ι) (z : EReal) (w : ι → ℝ) (hw : ∀ i, 0 ≤ w i) :
    z * ((∑ i ∈ s, w i : ℝ) : EReal) = ∑ i ∈ s, z * (w i : EReal) := by
  classical
  induction s using Finset.induction_on with
  | empty => simp
  | insert a s ha ih =>
    rw [Finset.sum_insert ha, Finset.sum_insert ha, EReal.coe_add, ← ih]
    exact EReal.left_distrib_of_nonneg (EReal.coe_nonneg.2 (hw a)) (EReal.coe_nonneg.2 (Finset.sum_nonneg fun i _ => hw i))

/-- A sum against an indicator is the value at the index. -/
theorem sum_pick {ι : Type} [Fintype ι] [DecidableEq ι] (i : ι) (f : ι → EReal) :
    ∑ k, (if k = i then (1 : EReal) else 0) * f k = f i := by
  rw [Finset.sum_eq_single i]
  · simp
  · intro k _ hk; simp [hk]
  · intro h; exact absurd (Finset.mem_univ i) h

/-! ## Two blocks of rows -/

/-- Row `r` of block 0, -/
def row0 (r : Fin 16384) : Fin 32768 := ⟨r.val, by omega⟩
/-- of block 1. -/
def row1 (r : Fin 16384) : Fin 32768 := ⟨16384 + r.val, by omega⟩

/-- The rows are those of the two blocks. -/
theorem sum_rows {M : Type} [AddCommMonoid M] (f : Fin 32768 → M) :
    ∑ n, f n = ∑ r, f (row0 r) + ∑ r, f (row1 r) :=
  Fin.sum_univ_add (a := 16384) (b := 16384) f

/-- Every row lies in one of them. -/
theorem row_cases (n : Fin 32768) : (∃ r, n = row0 r) ∨ ∃ r, n = row1 r := by
  rcases Nat.lt_or_ge n.val 16384 with h | h
  · exact .inl ⟨⟨n.val, h⟩, rfl⟩
  · refine .inr ⟨⟨n.val - 16384, by omega⟩, Fin.ext ?_⟩
    show n.val = 16384 + (n.val - 16384)
    omega

/-- Row `a` of the `q`-th group of eight. -/
def fold8 (q : Fin 2048) (a : Fin 8) : Fin 16384 := ⟨q.val * 8 + a.val, by omega⟩

/-- A block's sum taken in groups of eight. -/
theorem sum_fold8 {M : Type} [AddCommMonoid M] (f : Fin 16384 → M) :
    ∑ a, ∑ q, f (fold8 q a) = ∑ r, f r := by
  rw [Finset.sum_comm, ← Fintype.sum_prod_type' (f := fun q a => f (fold8 q a))]
  refine Fintype.sum_equiv (finProdFinEquiv (m := 2048) (n := 8)) _ _ fun p => ?_
  congr 1
  refine Fin.ext ?_
  show p.1.val * 8 + p.2.val = p.2.val + 8 * p.1.val
  omega

/-! ## Normalisation -/

/-- The mean of the squares less the square of the mean is the mean of the squared differences. -/
theorem variance (X : Fin 32768 → ℝ) :
    max ((∑ n, X n * X n) / 32768 - (∑ n, X n) / 32768 * ((∑ n, X n) / 32768)) 0
      = (∑ n, (X n - (∑ n, X n) / 32768) * (X n - (∑ n, X n) / 32768)) / 32768 := by
  set μ := (∑ n, X n) / 32768 with hμ
  have h1 : ∑ n, (X n - μ) * (X n - μ) = ∑ n, X n * X n - 32768 * (μ * μ) := by
    have : ∀ n, (X n - μ) * (X n - μ) = X n * X n - 2 * μ * X n + μ * μ := fun n => by ring
    simp only [this, Finset.sum_add_distrib, Finset.sum_sub_distrib, ← Finset.mul_sum, Finset.sum_const, Finset.card_univ,
      Fintype.card_fin, nsmul_eq_mul]
    have h2 : ∑ n, X n = 32768 * μ := by rw [hμ]; ring
    rw [h2]; push_cast; ring
  have h3 : (∑ n, X n * X n) / 32768 - μ * μ = (∑ n, (X n - μ) * (X n - μ)) / 32768 := by rw [h1]; ring
  rw [h3]
  exact max_eq_left (div_nonneg (Finset.sum_nonneg fun n _ => mul_self_nonneg _) (by norm_num))

/-- A quotient by a nonzero real. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- Normalising by the root and normalising by scale and shift agree, whatever the offset. -/
theorem normalise (x μ v g : ℝ) (hv : 0 < v) (b : EReal) :
    Ideal.div ((x : EReal) - (μ : EReal)) (Ideal.sqrt (v : EReal)) * (g : EReal) + b
      = ((x * (g * (Real.sqrt v)⁻¹) : ℝ) : EReal) + (b - ((μ * (g * (Real.sqrt v)⁻¹) : ℝ) : EReal)) := by
  have hs : Real.sqrt v ≠ 0 := (Real.sqrt_pos.2 hv).ne'
  rw [Ideal.sqrt_coe, if_neg (not_lt.2 hv.le), ← EReal.coe_sub, div_real _ _ hs, ← EReal.coe_mul,
    sub_eq_add_neg b, ← EReal.coe_neg, add_comm b, ← add_assoc, ← EReal.coe_add]
  congr 2
  field_simp
  ring

/-- The sigmoid of anything is a real. -/
theorem logistic_real (z : EReal) : ∃ r : ℝ, Ideal.logistic z = (r : EReal) := by
  induction z with
  | coe z => exact ⟨_, Ideal.logistic_coe z⟩
  | top => exact ⟨1, Ideal.logistic_top⟩
  | bot => exact ⟨0, Ideal.logistic_bot⟩

/-! ## The softmax, block by block -/

/-- The largest of the members' values, minus infinity for no member. -/
def top {ι : Type} [Fintype ι] (p : ι → Prop) [DecidablePred p] (e : ι → ℝ) : EReal :=
  Finset.univ.fold max ⊥ fun n => if p n then (e n : EReal) else ⊥

/-- A member's weight against the value `T`, zero for the others. -/
def weight {ι : Type} (p : ι → Prop) [DecidablePred p] (e : ι → ℝ) (T : ℝ) (n : ι) : ℝ :=
  if p n then Real.exp (e n - T) else 0

/-- The weight as it is printed: the exponential of a masked difference. -/
def part {ι : Type} (p : ι → Prop) [DecidablePred p] (e : ι → ℝ) (M : EReal) (n : ι) : EReal :=
  Ideal.exp (if p n then (e n : EReal) - M else ⊥)

/-- The factor that moves weights from one maximum to another. -/
def rescale (m M : EReal) : EReal := if M ≤ m then 1 else Ideal.exp (m - M)

section
variable {ι κ : Type} [Fintype ι] [Fintype κ] (p : ι → Prop) [DecidablePred p] (e : ι → ℝ)
  (q : κ → Prop) [DecidablePred q] (f : κ → ℝ)

/-- A weight is nonnegative. -/
theorem weight_nonneg (T : ℝ) (n : ι) : 0 ≤ weight p e T n := by
  unfold weight; split
  · exact (Real.exp_pos _).le
  · exact le_rfl

/-- The printed weight against a real. -/
theorem part_coe (T : ℝ) (n : ι) : part p e (T : EReal) n = (weight p e T n : EReal) := by
  unfold part weight
  split
  · rw [← EReal.coe_sub, Ideal.exp_coe]
  · simp

/-- Without a member every printed weight is zero. -/
theorem part_none (h : ∀ n, ¬p n) (M : EReal) (n : ι) : part p e M n = 0 := by
  unfold part; rw [if_neg (h n), Ideal.exp_bot]

/-- Without a member the maximum is minus infinity. -/
theorem top_none (h : ∀ n, ¬p n) : top p e = ⊥ := by
  unfold top
  refine le_antisymm ?_ bot_le
  refine (Finset.fold_max_le _).2 ⟨le_rfl, fun n _ => ?_⟩
  rw [if_neg (h n)]

/-- The maximum is the bound that is attained. -/
theorem top_eq (T : ℝ) (hle : ∀ n, p n → e n ≤ T) (hat : ∃ n, p n ∧ e n = T) : top p e = (T : EReal) := by
  unfold top
  refine le_antisymm ((Finset.fold_max_le _).2 ⟨bot_le, fun n _ => ?_⟩) ?_
  · split
    · next h => exact EReal.coe_le_coe_iff.2 (hle n h)
    · exact bot_le
  · obtain ⟨n, hn, rfl⟩ := hat
    refine Finset.le_fold_max _ |>.2 (.inr ⟨n, Finset.mem_univ n, ?_⟩)
    rw [if_pos hn]

/-- With a member the maximum is attained. -/
theorem exists_top (h : ∃ n, p n) : ∃ T : ℝ, (∀ n, p n → e n ≤ T) ∧ ∃ n, p n ∧ e n = T := by
  obtain ⟨n, hn⟩ := h
  obtain ⟨a, ha, hmax⟩ := Finset.exists_max_image (Finset.univ.filter p) e ⟨n, Finset.mem_filter.2 ⟨Finset.mem_univ n, hn⟩⟩
  exact ⟨e a, fun k hk => hmax k (Finset.mem_filter.2 ⟨Finset.mem_univ k, hk⟩), a, (Finset.mem_filter.1 ha).2, rfl⟩

/-- Moving the weights of a block to a larger maximum. -/
theorem rescale_coe (S T : ℝ) (h : S ≤ T) : rescale (S : EReal) (T : EReal) = ((Real.exp (S - T) : ℝ) : EReal) := by
  unfold rescale
  split
  · next h' =>
    have : S = T := le_antisymm h (EReal.coe_le_coe_iff.1 h')
    subst this; simp
  · rw [← EReal.coe_sub, Ideal.exp_coe]

/-- The weighted sum of a block after the move. -/
theorem moved (X : ι → ℝ) (S T : ℝ) :
    (∑ n, weight p e S n * X n) * Real.exp (S - T) = ∑ n, weight p e T n * X n := by
  rw [Finset.sum_mul]
  refine Finset.sum_congr rfl fun n _ => ?_
  unfold weight
  split
  · rw [show e n - T = (e n - S) + (S - T) by ring, Real.exp_add]; ring
  · simp

/-- What the running maximum and a running sum hold after both blocks: the sum at one maximum over both, or nothing at
    all when neither has a member. -/
theorem online (X : ι → ℝ) (Y : κ → ℝ) :
    ((∀ n, ¬p n) ∧ (∀ n, ¬q n) ∧
      (∑ n, part p e (top p e) n * (X n : EReal)) * rescale (top p e) (max (top p e) (top q f))
        + ∑ n, part q f (max (top p e) (top q f)) n * (Y n : EReal) = 0) ∨
    ∃ T : ℝ, (∀ n, p n → e n ≤ T) ∧ (∀ n, q n → f n ≤ T) ∧ ((∃ n, p n ∧ e n = T) ∨ ∃ n, q n ∧ f n = T) ∧
      (∑ n, part p e (top p e) n * (X n : EReal)) * rescale (top p e) (max (top p e) (top q f))
        + ∑ n, part q f (max (top p e) (top q f)) n * (Y n : EReal)
        = ((∑ n, weight p e T n * X n + ∑ n, weight q f T n * Y n : ℝ) : EReal) := by
  have hreal : ∀ T : ℝ, (∑ n, part q f (T : EReal) n * (Y n : EReal)) = ((∑ n, weight q f T n * Y n : ℝ) : EReal) := fun T => by
    rw [coe_sum]
    exact Finset.sum_congr rfl fun n _ => by rw [part_coe, EReal.coe_mul]
  by_cases hp : ∃ n, p n
  · obtain ⟨S, hS, hSa⟩ := exists_top p e hp
    have hX : (∑ n, part p e (S : EReal) n * (X n : EReal)) = ((∑ n, weight p e S n * X n : ℝ) : EReal) := by
      rw [coe_sum]
      exact Finset.sum_congr rfl fun n _ => by rw [part_coe, EReal.coe_mul]
    rw [top_eq p e S hS hSa]
    have key : ∀ T : ℝ, S ≤ T → (∑ n, part p e (S : EReal) n * (X n : EReal)) * rescale (S : EReal) (T : EReal)
        + ∑ n, part q f (T : EReal) n * (Y n : EReal)
        = ((∑ n, weight p e T n * X n + ∑ n, weight q f T n * Y n : ℝ) : EReal) := fun T hT => by
      rw [hX, rescale_coe S T hT, ← EReal.coe_mul, moved, hreal, ← EReal.coe_add]
    right
    by_cases hq : ∃ n, q n
    · obtain ⟨R, hR, hRa⟩ := exists_top q f hq
      rw [top_eq q f R hR hRa]
      rcases le_total S R with h | h
      · refine ⟨R, fun n hn => (hS n hn).trans h, hR, .inr hRa, ?_⟩
        rw [max_eq_right (EReal.coe_le_coe_iff.2 h)]
        exact key R h
      · refine ⟨S, hS, fun n hn => (hR n hn).trans h, .inl hSa, ?_⟩
        rw [max_eq_left (EReal.coe_le_coe_iff.2 h)]
        exact key S le_rfl
    · have hq' : ∀ n, ¬q n := fun n hn => hq ⟨n, hn⟩
      refine ⟨S, hS, fun n hn => absurd hn (hq' n), .inl hSa, ?_⟩
      rw [top_none q f hq', max_eq_left bot_le]
      exact key S le_rfl
  · have hp' : ∀ n, ¬p n := fun n hn => hp ⟨n, hn⟩
    have h0 : (∑ n, part p e (top p e) n * (X n : EReal)) = 0 :=
      Finset.sum_eq_zero fun n _ => by rw [part_none p e hp', zero_mul]
    have hw : ∀ T, (∑ n, weight p e T n * X n) = 0 := fun T =>
      Finset.sum_eq_zero fun n _ => by rw [weight, if_neg (hp' n), zero_mul]
    rw [h0, zero_mul, zero_add, top_none p e hp', max_eq_right bot_le]
    by_cases hq : ∃ n, q n
    · obtain ⟨R, hR, hRa⟩ := exists_top q f hq
      refine .inr ⟨R, fun n hn => absurd hn (hp' n), hR, .inr hRa, ?_⟩
      rw [top_eq q f R hR hRa, hreal, hw, zero_add]
    · have hq' : ∀ n, ¬q n := fun n hn => hq ⟨n, hn⟩
      exact .inl ⟨hp', hq', Finset.sum_eq_zero fun n _ => by rw [part_none q f hq', zero_mul]⟩

end

/-- The weighted readout taken out of the sum: scale and shift applied to the normalised weighted sum are the weighted
    sum of the scaled and shifted rows. -/
theorem readout_sum {ι : Type} [Fintype ι] (X w : ι → ℝ) (hw : ∀ n, 0 ≤ w n) (sc : ℝ) (sh : EReal) (hD : 0 < ∑ n, w n) :
    ((∑ n, w n * X n : ℝ) : EReal) * Ideal.div 1 ((∑ n, w n : ℝ) : EReal) * (sc : EReal) + 1 * sh
      = ∑ n, (((X n * sc : ℝ) : EReal) + sh) * ((w n / (∑ n, w n) : ℝ) : EReal) := by
  set D := ∑ n, w n with hDdef
  have h1 : ∑ n, w n / D = 1 := by rw [← Finset.sum_div]; exact div_self hD.ne'
  have h2 : ∑ n, sh * ((w n / D : ℝ) : EReal) = 1 * sh := by
    rw [← mul_sum_coe _ _ _ (fun n => div_nonneg (hw n) hD.le), h1]; simp [mul_comm]
  rw [sum_add_mul_coe, h2, show (1 : EReal) = ((1 : ℝ) : EReal) from rfl, div_real _ _ hD.ne', ← EReal.coe_mul, ← EReal.coe_mul]
  congr 1
  rw [Finset.sum_congr rfl fun n _ => (EReal.coe_mul (X n * sc) (w n / D)).symm, ← coe_sum]
  congr 1
  rw [Finset.sum_mul, Finset.sum_mul]
  exact Finset.sum_congr rfl fun n _ => by ring

end Cert.Maths

end
-- ==== Proof.Spec.lean ====
/- The function both programs compute, written on plain indices: batch normalisation, the attention logits, and the
   softmax-weighted readout of each segment. -/
module

public import proofs.«01_k».proof.Proof.Maths

@[expose] public section

noncomputable section

namespace Cert.Maths

open Idealize.ShloMosaic

/-- The nine arguments on plain indices: the features, the scale, the two weights whose entries are real; the offset, the
    other weight and its bias, which may hold anything; the segment words and the row of each segment's last node. -/
structure Args where
  X : Fin 32768 → Fin 128 → ℝ
  G : Fin 128 → ℝ
  U : Fin 128 → Fin 128 → ℝ
  E : Fin 128 → ℝ
  β : Fin 128 → EReal
  V : Fin 128 → Fin 128 → EReal
  c : Fin 128 → EReal
  seg : Fin 32768 → BitVec 32
  last : Fin 16 → Fin 32768

namespace Args
variable (a : Args)

/-- The mean of each feature, -/
def mean (d : Fin 128) : ℝ := (∑ n, a.X n d) / 32768
/-- its variance, -/
def var (d : Fin 128) : ℝ := (∑ n, (a.X n d - a.mean d) * (a.X n d - a.mean d)) / 32768
/-- the scale -/
def sc (d : Fin 128) : ℝ := a.G d * (Real.sqrt (a.var d + eps))⁻¹
/-- and the shift of the normalisation. -/
def sh (d : Fin 128) : EReal := a.β d - ((a.mean d * a.sc d : ℝ) : EReal)
/-- A normalised row. -/
def bn (n : Fin 32768) (d : Fin 128) : EReal := ((a.X n d * a.sc d : ℝ) : EReal) + a.sh d
/-- The second product at a segment's last node. -/
def fv (b : Fin 16) (h : Fin 128) : EReal := ∑ k, a.bn (a.last b) k * a.V k h + a.c h
/-- What the sigmoid is taken of, for a row taken as one of segment `b`. -/
def pre (b : Fin 16) (n : Fin 32768) (h : Fin 128) : EReal :=
  ∑ k, ((a.X n k * (a.sc k * a.U k h) : ℝ) : EReal) + (a.fv b h + ∑ k, a.sh k * (a.U k h : EReal))
/-- The logit of a row taken as one of segment `b`. -/
def logit (b : Fin 16) (n : Fin 32768) : ℝ := ∑ h, a.E h * (Ideal.logistic (a.pre b n h)).toReal
/-- Membership of a row in a segment. -/
def mem (b : Fin 16) (n : Fin 32768) : Prop := BitVec.ofNat 32 b.val = a.seg n
instance (b : Fin 16) : DecidablePred (a.mem b) := fun n => by unfold mem; infer_instance
/-- `T` is the largest logit of the segment. -/
def IsTop (b : Fin 16) (T : ℝ) : Prop := (∀ n, a.mem b n → a.logit b n ≤ T) ∧ ∃ n, a.mem b n ∧ a.logit b n = T
/-- A segment's readout: its normalised rows weighted by the softmax of the logits. -/
def readout (b : Fin 16) (T : ℝ) (d : Fin 128) : EReal :=
  ∑ n, a.bn n d * ((weight (a.mem b) (a.logit b) T n / (∑ k, weight (a.mem b) (a.logit b) T k) : ℝ) : EReal)

/-- The variance with the constant added is positive. -/
theorem var_pos (d : Fin 128) : 0 < a.var d + eps :=
  add_pos_of_nonneg_of_pos (div_nonneg (Finset.sum_nonneg fun _ _ => mul_self_nonneg _) (by norm_num)) eps_pos

/-- The product with the first weights, taken apart. -/
theorem pre_eq (b : Fin 16) (n : Fin 32768) (h : Fin 128) :
    ∑ k, a.bn n k * (a.U k h : EReal) + a.fv b h = a.pre b n h := by
  unfold pre bn
  rw [sum_add_mul_coe, add_assoc, add_comm (∑ k, a.sh k * (a.U k h : EReal))]
  congr 1
  exact Finset.sum_congr rfl fun k _ => by rw [← EReal.coe_mul, mul_assoc]

/-- The logit as a sum of extended reals. -/
theorem logit_eq (b : Fin 16) (n : Fin 32768) :
    ∑ h, (a.E h : EReal) * Ideal.logistic (a.pre b n h) = ((a.logit b n : ℝ) : EReal) := by
  unfold logit
  rw [coe_sum]
  refine Finset.sum_congr rfl fun h _ => ?_
  obtain ⟨r, hr⟩ := logistic_real (a.pre b n h)
  rw [hr, EReal.toReal_coe, EReal.coe_mul]

/-- A segment with a member has a positive total weight. -/
theorem total_pos (b : Fin 16) (T : ℝ) (h : ∃ n, a.mem b n) : 0 < ∑ n, weight (a.mem b) (a.logit b) T n := by
  obtain ⟨n, hn⟩ := h
  refine Finset.sum_pos' (fun k _ => weight_nonneg _ _ _ _) ⟨n, Finset.mem_univ n, ?_⟩
  rw [weight, if_pos hn]
  exact Real.exp_pos _

end Args
end Cert.Maths

end
-- ==== Proof.Words.lean ====
/- Comparison bits, small numbers and their words: what the one-hot masks and the index arithmetic of both programs come to. -/
module

public import Idealize.ShloMosaic.PureOps.Ideal
public import Idealize.ShloMosaic.Lib.IdealHost

@[expose] public section

noncomputable section

namespace Cert.Maths

open Idealize.ShloMosaic

/-- A comparison's bit. -/
theorem bit_eq (a b : BitVec 32) : IntOp.cmpi CmpIPredicate.eq a b = if a = b then 1#1 else 0#1 := by
  unfold IntOp.cmpi
  by_cases h : a = b
  · subst h; simp
  · simp only [if_neg h, beq_eq_false_iff_ne.2 h]; rfl

/-- A comparison's bit as a float is an indicator. -/
theorem ind_eq (a b : BitVec 32) :
    (FloatOps.sitofp (F := Ideal) FTy.f32 (BitVec.setWidth 32 (IntOp.cmpi CmpIPredicate.eq a b)) : EReal) = if a = b then 1 else 0 := by
  rw [bit_eq]
  by_cases h : a = b
  · rw [if_pos h, if_pos h]
    show (((BitVec.setWidth 32 1#1).toInt : ℝ) : EReal) = 1
    have : (BitVec.setWidth 32 1#1).toInt = 1 := by decide
    rw [this]; simp
  · rw [if_neg h, if_neg h]
    show (((BitVec.setWidth 32 0#1).toInt : ℝ) : EReal) = 0
    have : (BitVec.setWidth 32 0#1).toInt = 0 := by decide
    rw [this]; simp

/-- A choice by a comparison's bit. -/
theorem select_eq {α : Type} (a b : BitVec 32) (x y : α) :
    Scalar.select (IntOp.cmpi CmpIPredicate.eq a b) x y = if a = b then x else y := by
  rw [bit_eq]
  by_cases h : a = b
  · rw [if_pos h, if_pos h]; simp [Scalar.select]
  · rw [if_neg h, if_neg h]; simp [Scalar.select]

/-- Small numbers and their words. -/
theorem word_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A sum of words with one term that may not be zero. -/
theorem fold_single (r : Fin 16) (f : Fin 16 → BitVec 32) (s : Finset (Fin 16)) :
    Finset.fold IntOp.addi (0#32) (fun x => if x = r then f x else 0#32) s = if r ∈ s then f r else 0#32 := by
  classical
  induction s using Finset.induction_on with
  | empty => simp
  | insert x t hx ih =>
    rw [Finset.fold_insert hx, ih]
    by_cases e : x = r
    · subst e; simp [hx, IntOp.addi]
    · simp [e, Ne.symm e, IntOp.addi, eq_comm]

/-- The diagonal picks one word out of a row. -/
theorem diag_word (r : Fin 16) (f : Fin 16 → BitVec 32) :
    Finset.fold IntOp.addi (0#32) (fun x : Fin 16 => IntOp.muli
      (BitVec.setWidth 32 (IntOp.cmpi CmpIPredicate.eq (BitVec.ofNat 32 r.val) (BitVec.ofNat 32 x.val))) (f x)) Finset.univ = f r := by
  have h : ∀ x : Fin 16, IntOp.muli
      (BitVec.setWidth 32 (IntOp.cmpi CmpIPredicate.eq (BitVec.ofNat 32 r.val) (BitVec.ofNat 32 x.val))) (f x)
      = if x = r then f x else 0#32 := fun x => by
    rw [bit_eq]
    by_cases hx : x = r
    · subst hx; simp [IntOp.muli]
    · have : ¬ BitVec.ofNat 32 r.val = BitVec.ofNat 32 x.val := fun e =>
        hx (Fin.ext ((word_inj (by omega) (by omega)).1 e).symm)
      rw [if_neg this, if_neg hx]
      simp [IntOp.muli]
  simp only [h]
  rw [fold_single, if_pos (Finset.mem_univ r)]

/-- A word is a small number's exactly when, read signed, it is that number. -/
theorem word_signed (w : BitVec 32) (b : ℕ) (hb : b < 2 ^ 31) : w.toInt = (b : ℤ) ↔ BitVec.ofNat 32 b = w := by
  have h : (BitVec.ofNat 32 b).toInt = (b : ℤ) := by
    rw [BitVec.toInt_ofNat', Int.bmod_eq_of_le (by omega) (by omega)]
  constructor
  · intro e
    exact BitVec.toInt_inj.1 (h.trans e.symm)
  · rintro rfl
    exact h

/-- A small number's word is not below zero. -/
theorem slt_word (b : ℕ) (hb : b < 2 ^ 31) {α : Type} (x y : α) :
    Scalar.select (IntOp.cmpi CmpIPredicate.slt (BitVec.ofNat 32 b) 0#32) x y = y := by
  have h : (BitVec.ofNat 32 b).slt 0#32 = false := by
    rw [BitVec.slt_eq_decide, (word_signed _ b hb).2 rfl]
    simp
  unfold IntOp.cmpi
  simp only [h]
  rfl

end Cert.Maths

end
-- ==== Proof.KernelIdeal.Read.lean ====
/- The kernel's pure values read at an index: what each of the four kinds of point makes of its state, on plain indices. -/
module

public import proofs.«01_k».proof.Proof.KernelIdeal.Body
public import proofs.«01_k».proof.Proof.Spec
public import proofs.«01_k».proof.Proof.Words
public import Idealize.ShloMosaic.Lib.Pointwise

@[expose] public section

set_option maxRecDepth 16384

noncomputable section

namespace Cert.KernelIdeal.Own

open Cert.KernelIdeal Cert.KernelIdeal.Gen
open Idealize.ShloMosaic
open Cert.Maths

/-! ## The first two points: the sums and the last nodes' rows -/

/-- The sums of the rows, eight lanes deep. -/
theorem sum_read (x : Vec Ideal S16384x128 .f32) (s : Vec Ideal S8x128 .f32) (f : Fin 16384 → Fin 128 → ℝ) (σ : Fin 8 → Fin 128 → ℝ)
    (hx : ∀ r l, x (ix2 r l) = (f r l : EReal)) (hs : ∀ q l, s (ix2 q l) = (σ q l : EReal)) (q : Fin 8) (l : Fin 128) :
    k0_pay15 x s (ix2 q l) = ((σ q l + ∑ k, f (fold8 k q) l : ℝ) : EReal) := by
  unfold k0_pay15 k0_pay14
  pointwise [hs]
  rw [EReal.coe_add, coe_sum]
  exact congrArg ((σ q l : EReal) + ·) (Finset.sum_congr rfl fun k _ => hx (fold8 k q) l)

/-- The sums of their squares. -/
theorem sq_read (x : Vec Ideal S16384x128 .f32) (s : Vec Ideal S8x128 .f32) (f : Fin 16384 → Fin 128 → ℝ) (σ : Fin 8 → Fin 128 → ℝ)
    (hx : ∀ r l, x (ix2 r l) = (f r l : EReal)) (hs : ∀ q l, s (ix2 q l) = (σ q l : EReal)) (q : Fin 8) (l : Fin 128) :
    k0_pay16 x s (ix2 q l) = ((σ q l + ∑ k, f (fold8 k q) l * f (fold8 k q) l : ℝ) : EReal) := by
  unfold k0_pay16 k0_pay14
  pointwise [hs]
  rw [EReal.coe_add, coe_sum]
  refine congrArg ((σ q l : EReal) + ·) (Finset.sum_congr rfl fun k _ => ?_)
  rw [EReal.coe_mul, ← hx (fold8 k q) l]
  rfl

/-- The last nodes' rows that lie in this block. -/
theorem last_read (i : BitVec 32) (x : Vec Ideal S16384x128 .f32) (ln : Vec Ideal S1x16 .i32) (s : Vec Ideal S16x128 .f32)
    (f : Fin 16384 → Fin 128 → ℝ) (hx : ∀ r l, x (ix2 r l) = (f r l : EReal)) (b : Fin 16) (l : Fin 128) :
    k0_pay7 (k0_pay17 i x ln s) (ix2 b l) = (s (ix2 b l) : EReal) + ∑ r : Fin 16384,
      (if IntOp.addi (Scalar.muli i 16384#32) (BitVec.ofNat 32 r.val) = ln (ix2 0 b) then (1 : EReal) else 0) * (f r l : EReal) := by
  unfold k0_pay7 k0_pay17
  pointwise [dot_S16x16384_S16384x128_S16x128_1_0_0_1_n_n]
  refine congrArg ((s (ix2 b l) : EReal) + ·) (Finset.sum_congr rfl fun r _ => ?_)
  rw [diag_word b fun y => ln (ix2 0 y)]
  exact congrArg₂ (fun u v : EReal => u * v) (ind_eq _ _) (hx r l)

/-! ## The third point's normalisation -/

/-- The mean. -/
theorem mean_read (s : Vec Ideal S8x128 .f32) (σ : Fin 8 → Fin 128 → ℝ)
    (hs : ∀ q l, s (ix2 q l) = (σ q l : EReal)) (r : Fin 1) (l : Fin 128) :
    k0_pay18 s (ix2 r l) = (((∑ q, σ q l) / 32768 : ℝ) : EReal) := by
  unfold k0_pay18
  pointwise [hs]
  rw [← div_real _ _ (by norm_num : (32768 : ℝ) ≠ 0), ← rows_word, coe_sum]

/-- The scale. -/
theorem scale_read (s q : Vec Ideal S8x128 .f32) (g : Vec Ideal S1x128 .f32) (μ ν γ v : Fin 128 → ℝ)
    (hm : ∀ r l, k0_pay18 s (ix2 r l) = (μ l : EReal)) (hq : ∀ r l, k0_pay18 q (ix2 r l) = (ν l : EReal))
    (hg : ∀ r l, g (ix2 r l) = (γ l : EReal)) (hv : ∀ l, max (ν l - μ l * μ l) 0 + eps = v l) (h0 : ∀ l, 0 < v l)
    (r : Fin 1) (l : Fin 128) :
    k0_pay19 s q g (ix2 r l) = ((γ l * (Real.sqrt (v l))⁻¹ : ℝ) : EReal) := by
  have e : ∀ r l, k0_pay19 s q g (ix2 r l) = (g (ix2 r l) : EReal) * Ideal.rsqrt (max (k0_pay18 q (ix2 r l) - k0_pay18 s (ix2 r l) * k0_pay18 s (ix2 r l) : EReal) 0 + Ideal.ofBits .f32 925353388#32) := by
    intro r l
    unfold k0_pay19
    pointwise
    unfold k0_pay18
    pointwise
  rw [e, hm, hq, hg, eps_word, ← EReal.coe_mul, ← EReal.coe_sub]
  have hc : max (((ν l - μ l * μ l : ℝ) : EReal)) 0 + (eps : EReal) = (v l : EReal) := by
    rw [← hv l, EReal.coe_add, (EReal.coe_strictMono.monotone.map_max : ((max (ν l - μ l * μ l) 0 : ℝ) : EReal) = _), EReal.coe_zero]
  rw [hc, Ideal.rsqrt_coe, if_neg (not_lt.2 (h0 l).le), if_neg (h0 l).ne', ← EReal.coe_mul]

/-- The shift. -/
theorem shift_read (s q : Vec Ideal S8x128 .f32) (g b : Vec Ideal S1x128 .f32) (μ γ : Fin 128 → ℝ) (β : Fin 128 → EReal)
    (hm : ∀ r l, k0_pay18 s (ix2 r l) = (μ l : EReal)) (hγ : ∀ r l, k0_pay19 s q g (ix2 r l) = (γ l : EReal))
    (hb : ∀ r l, b (ix2 r l) = β l) (r : Fin 1) (l : Fin 128) :
    k0_pay20 s q g b (ix2 r l) = β l - ((μ l * γ l : ℝ) : EReal) := by
  have e : k0_pay20 s q g b (ix2 r l) = (b (ix2 r l) : EReal) - k0_pay18 s (ix2 r l) * k0_pay19 s q g (ix2 r l) := by
    unfold k0_pay20
    pointwise
  rw [e, hm, hγ, hb, EReal.coe_mul]

/-- The kept scale and shift are the same rows. -/
theorem scale_kept (s q : Vec Ideal S8x128 .f32) (g : Vec Ideal S1x128 .f32) (r : Fin 1) (l : Fin 128) :
    k0_pay21 s q g (ix2 r l) = k0_pay19 s q g (ix2 r l) := by
  unfold k0_pay21
  pointwise

theorem shift_kept (s q : Vec Ideal S8x128 .f32) (g b : Vec Ideal S1x128 .f32) (r : Fin 1) (l : Fin 128) :
    k0_pay22 s q g b (ix2 r l) = k0_pay20 s q g b (ix2 r l) := by
  unfold k0_pay22
  pointwise

/-- The first weights with the scale folded in. -/
theorem weights_read (s q : Vec Ideal S8x128 .f32) (g : Vec Ideal S1x128 .f32) (w : Vec Ideal S128x128 .f32) (γ : Fin 128 → ℝ)
    (U : Fin 128 → Fin 128 → ℝ) (hγ : ∀ r l, k0_pay19 s q g (ix2 r l) = (γ l : EReal)) (hw : ∀ r l, w (ix2 r l) = (U r l : EReal))
    (r l : Fin 128) :
    k0_pay8 (k0_pay23 s q g) w (ix2 r l) = ((γ r * U r l : ℝ) : EReal) := by
  have e : k0_pay8 (k0_pay23 s q g) w (ix2 r l)
      = ∑ k : Fin 128, ((FloatOps.sitofp (F := Ideal) .f32 (BitVec.setWidth 32 (IntOp.cmpi .eq (BitVec.ofNat 32 r.val) (BitVec.ofNat 32 k.val))) : EReal)
          * k0_pay19 s q g (ix2 0 k)) * w (ix2 k l) := by
    unfold k0_pay8 k0_pay23
    pointwise [dot_S128x128_S128x128_S128x128_1_0_0_1_n_n]
  rw [e, EReal.coe_mul, ← sum_pick r (fun k => (γ k : EReal) * (U k l : EReal))]
  refine Finset.sum_congr rfl fun k _ => ?_
  rw [ind_eq, hγ, hw, mul_assoc]
  refine congrArg (· * _) (if_congr ?_ rfl rfl)
  rw [word_inj (by omega) (by omega), Fin.ext_iff, eq_comm]

/-- The second product at the last nodes, with the first product's shift. -/
theorem vb_read (γ σ : Vec Ideal S1x128 .f32) (U V : Vec Ideal S128x128 .f32) (x : Vec Ideal S16x128 .f32) (c : Vec Ideal S1x128 .f32)
    (r : Fin 16) (l : Fin 128) :
    k0_pay9 γ σ U x V c (ix2 r l) = (∑ k : Fin 128, ((x (ix2 r k) * γ (ix2 0 k) + σ (ix2 0 k)) * V (ix2 k l) : EReal) + c (ix2 0 l)
      + ∑ k : Fin 128, (σ (ix2 0 k) * U (ix2 k l) : EReal) : EReal) := by
  unfold k0_pay9
  pointwise [dot_S16x128_S128x128_S16x128_1_0_0_1_n_n, dot_S1x128_S128x128_S1x128_1_0_0_1_n_n]

/-! ## The last two points: the logits, the running maximum and the two running sums -/

/-- The logits of a block. -/
theorem logit_read (x : Vec Ideal S16384x128 .f32) (w : Vec Ideal S128x128 .f32) (s : Vec Ideal S1x1x16384 .i32)
    (f : Vec Ideal S16x128 .f32) (we : Vec Ideal S1x128 .f32) (r : Fin 1) (l : Fin 16384) (b : Fin 16)
    (hb : BitVec.ofNat 32 b.val = s (ix3 0 0 l)) :
    k0_pay25 x w s f we (ix2 r l) = ∑ h : Fin 128, (we (ix2 r h) * Ideal.logistic (∑ k : Fin 128, (x (ix2 l k) * w (ix2 k h) : EReal)
      + f (ix2 b h)) : EReal) := by
  have e : k0_pay25 x w s f we (ix2 r l) = ∑ h : Fin 128, (we (ix2 r h) * Ideal.logistic (∑ k : Fin 128, (x (ix2 l k) * w (ix2 k h) : EReal)
      + ∑ b : Fin 16, (FloatOps.sitofp (F := Ideal) .f32 (BitVec.setWidth 32 (IntOp.cmpi .eq (BitVec.ofNat 32 b.val) (s (ix3 0 0 l)))) * f (ix2 b h) : EReal)) : EReal) := by
    unfold k0_pay25 k0_pay24
    pointwise [dot_S16384x128_S128x128_S16384x128_1_0_0_1_n_n, dot_S16x16384_S16x128_S16384x128_0_0_1_1_n_n, dot_S1x128_S16384x128_S1x16384_1_1_0_0_n_n]
  rw [e]
  refine Finset.sum_congr rfl fun h _ => congrArg (fun z => (we (ix2 r h) : EReal) * Ideal.logistic (_ + z)) ?_
  rw [← sum_pick b (fun k => f (ix2 k h) : Fin 16 → EReal)]
  refine Finset.sum_congr rfl fun k _ => ?_
  rw [ind_eq, ← hb]
  refine congrArg (· * _) (if_congr ?_ rfl rfl)
  rw [word_inj (by omega) (by omega), Fin.ext_iff]

section Block
variable (x : Vec Ideal S16384x128 .f32) (w : Vec Ideal S128x128 .f32) (s : Vec Ideal S1x1x16384 .i32)
  (f : Vec Ideal S16x128 .f32) (we : Vec Ideal S1x128 .f32) (b : Fin 16) (p : Fin 16384 → Prop) [DecidablePred p] (e : Fin 16384 → ℝ)
  (hp : ∀ l, BitVec.ofNat 32 b.val = s (ix3 0 0 l) ↔ p l) (he : ∀ l, p l → k0_pay25 x w s f we (ix2 0 l) = (e l : EReal))
include hp he

/-- The running maximum. -/
theorem max_read (m : Vec Ideal S16x1 .f32) (l : Fin 1) :
    k0_pay26 x w s f we m (ix2 b l) = max (m (ix2 b l) : EReal) (top p e) := by
  have h : k0_pay26 x w s f we m (ix2 b l) = max (m (ix2 b l) : EReal) (Finset.fold max (Ideal.ofBits .f32 4286578688#32)
      (fun k : Fin 16384 => Scalar.select (IntOp.cmpi .eq (BitVec.ofNat 32 b.val) (s (ix3 0 0 k))) (k0_pay25 x w s f we (ix2 0 k) : EReal) (Ideal.ofBits .f32 4286578688#32)) Finset.univ) := by
    unfold k0_pay26 k0_pay24
    pointwise
  rw [h, bot_word, top]
  congr 2
  funext k
  rw [select_eq]
  by_cases hk : p k
  · rw [if_pos hk, if_pos ((hp k).2 hk), he k hk]
  · rw [if_neg hk, if_neg fun q => hk ((hp k).1 q)]

/-- The factor that moves a sum from the old maximum to the new one. -/
theorem rescale_read (m : Vec Ideal S16x1 .f32) (l : Fin 1) :
    k0_pay27 x w s f we m (ix2 b l) = rescale (m (ix2 b l)) (max (m (ix2 b l) : EReal) (top p e)) := by
  have h : k0_pay27 x w s f we m (ix2 b l) = if (k0_pay26 x w s f we m (ix2 b l) : EReal) ≤ m (ix2 b l) then (1 : EReal)
      else Ideal.exp (m (ix2 b l) - k0_pay26 x w s f we m (ix2 b l) : EReal) := by
    unfold k0_pay27
    pointwise
  rw [h, max_read x w s f we b p e hp he, rescale]

/-- The weights of the block's rows. -/
theorem part_read (m : Vec Ideal S16x1 .f32) (l : Fin 16384) :
    k0_pay28 x w s f we m (ix2 b l) = part p e (max (m (ix2 b 0) : EReal) (top p e)) l := by
  have h : k0_pay28 x w s f we m (ix2 b l) = Ideal.exp (Scalar.select (IntOp.cmpi .eq (BitVec.ofNat 32 b.val) (s (ix3 0 0 l)))
      (k0_pay25 x w s f we (ix2 0 l) - k0_pay26 x w s f we m (ix2 b 0) : EReal) (Ideal.ofBits .f32 4286578688#32)) := by
    unfold k0_pay28 k0_pay24
    pointwise
  rw [h, max_read x w s f we b p e hp he, part, select_eq, bot_word]
  by_cases hk : p l
  · rw [if_pos hk, if_pos ((hp l).2 hk), he l hk]
  · rw [if_neg hk, if_neg fun q => hk ((hp l).1 q)]

/-- The running total of the weights. -/
theorem den_read (m d : Vec Ideal S16x1 .f32) (l : Fin 1) :
    k0_pay10 (k0_pay27 x w s f we m) (k0_pay28 x w s f we m) d (ix2 b l)
      = (d (ix2 b l) * rescale (m (ix2 b 0)) (max (m (ix2 b 0) : EReal) (top p e)) + ∑ k, part p e (max (m (ix2 b 0) : EReal) (top p e)) k : EReal) := by
  obtain rfl : l = 0 := Subsingleton.elim _ _
  have h : k0_pay10 (k0_pay27 x w s f we m) (k0_pay28 x w s f we m) d (ix2 b 0)
      = (d (ix2 b 0) * k0_pay27 x w s f we m (ix2 b 0) + ∑ k : Fin 16384, (k0_pay28 x w s f we m (ix2 b k) : EReal) : EReal) := by
    unfold k0_pay10
    pointwise
  exact h.trans (congrArg₂ (fun u v : EReal => u + v) (congrArg (fun z : EReal => d (ix2 b 0) * z) (rescale_read x w s f we b p e hp he m 0))
    (Finset.sum_congr rfl fun k _ => part_read x w s f we b p e hp he m k))

/-- The running weighted sum of the rows. -/
theorem acc_read (m : Vec Ideal S16x1 .f32) (a : Vec Ideal S16x128 .f32) (X : Fin 16384 → Fin 128 → ℝ)
    (hx : ∀ r l, x (ix2 r l) = (X r l : EReal)) (l : Fin 128) :
    k0_pay11 x (k0_pay27 x w s f we m) (k0_pay28 x w s f we m) a (ix2 b l)
      = (a (ix2 b l) * rescale (m (ix2 b 0)) (max (m (ix2 b 0) : EReal) (top p e)) + ∑ k, part p e (max (m (ix2 b 0) : EReal) (top p e)) k * (X k l : EReal) : EReal) := by
  have h : k0_pay11 x (k0_pay27 x w s f we m) (k0_pay28 x w s f we m) a (ix2 b l)
      = (a (ix2 b l) * k0_pay27 x w s f we m (ix2 b 0) + ∑ k : Fin 16384, (k0_pay28 x w s f we m (ix2 b k) * x (ix2 k l) : EReal) : EReal) := by
    unfold k0_pay11
    pointwise [dot_S16x16384_S16384x128_S16x128_1_0_0_1_n_n]
  exact h.trans (congrArg₂ (fun u v : EReal => u + v) (congrArg (fun z : EReal => a (ix2 b l) * z) (rescale_read x w s f we b p e hp he m 0))
    (Finset.sum_congr rfl fun k _ => congrArg₂ (fun u v : EReal => u * v) (part_read x w s f we b p e hp he m k) (hx k l)))

end Block

/-- The readout. -/
theorem readout_read (d : Vec Ideal S16x1 .f32) (a : Vec Ideal S16x128 .f32) (γ σ : Vec Ideal S1x128 .f32) (r : Fin 16) (l : Fin 128) :
    k0_pay13 d a γ σ (ix2 r l) = ((a (ix2 r l) * if (0 : EReal) < d (ix2 r 0) then Ideal.div 1 (d (ix2 r 0)) else 0) * γ (ix2 0 l)
      + (if (0 : EReal) < d (ix2 r 0) then (1 : EReal) else 0) * σ (ix2 0 l) : EReal) := by
  have h : k0_pay13 d a γ σ (ix2 r l) = ((a (ix2 r l) * if (0 : EReal) < d (ix2 r 0) then Ideal.div 1 (d (ix2 r 0)) else 0) * γ (ix2 0 l)
      + FloatOps.sitofp (F := Ideal) .f32 (BitVec.setWidth 32 (BitVec.ofBool (decide ((0 : EReal) < d (ix2 r 0))))) * σ (ix2 0 l) : EReal) := by
    unfold k0_pay13
    pointwise
  rw [h]
  refine congrArg₂ (fun u v : EReal => u + v) rfl (congrArg (fun z : EReal => z * σ (ix2 0 l)) ?_)
  by_cases q : (0 : EReal) < d (ix2 r 0)
  · rw [if_pos q, decide_eq_true q, ← ind_eq 0#32 0#32 |>.trans (if_pos rfl), bit_eq, if_pos rfl]; rfl
  · rw [if_neg q, decide_eq_false q, ← ind_eq 0#32 1#32 |>.trans (if_neg (by decide)), bit_eq, if_neg (by decide)]; rfl

end Cert.KernelIdeal.Own

end
-- ==== Proof.KernelIdeal.Value.lean ====
/- What the four points compute together, on plain indices: no members, no readout; otherwise the softmax-weighted sum. -/
module

public import proofs.«01_k».proof.Proof.KernelIdeal.Read

@[expose] public section

set_option maxRecDepth 16384

noncomputable section

namespace Cert.KernelIdeal.Own

open Cert.KernelIdeal Cert.KernelIdeal.Gen
open Idealize.ShloMosaic
open Cert.Maths

/-- The blocks the four points read, and that they hold the arguments. -/
structure Blocks (a : Args) where
  i0 : grid0.Coords
  i1 : grid0.Coords
  x0 : Vec Ideal S16384x128 .f32
  x1 : Vec Ideal S16384x128 .f32
  s0 : Vec Ideal S1x1x16384 .i32
  s1 : Vec Ideal S1x1x16384 .i32
  ln0 : Vec Ideal S1x16 .i32
  ln1 : Vec Ideal S1x16 .i32
  g : Vec Ideal S1x128 .f32
  bt : Vec Ideal S1x128 .f32
  wu : Vec Ideal S128x128 .f32
  wv : Vec Ideal S128x128 .f32
  bv : Vec Ideal S1x128 .f32
  we0 : Vec Ideal S1x128 .f32
  we1 : Vec Ideal S1x128 .f32
  hi0 : (i0 1).val = 0
  hi1 : (i1 1).val = 1
  hx0 : ∀ r l, x0 (ix2 r l) = (a.X (row0 r) l : EReal)
  hx1 : ∀ r l, x1 (ix2 r l) = (a.X (row1 r) l : EReal)
  hs0 : ∀ r, s0 (ix3 0 0 r) = a.seg (row0 r)
  hs1 : ∀ r, s1 (ix3 0 0 r) = a.seg (row1 r)
  hln0 : ∀ b, ln0 (ix2 0 b) = BitVec.ofNat 32 (a.last b).val
  hln1 : ∀ b, ln1 (ix2 0 b) = BitVec.ofNat 32 (a.last b).val
  hg : ∀ r l, g (ix2 r l) = (a.G l : EReal)
  hbt : ∀ r l, bt (ix2 r l) = a.β l
  hwu : ∀ k l, wu (ix2 k l) = (a.U k l : EReal)
  hwv : ∀ k l, wv (ix2 k l) = a.V k l
  hbv : ∀ r l, bv (ix2 r l) = a.c l
  hwe0 : ∀ r l, we0 (ix2 r l) = (a.E l : EReal)
  hwe1 : ∀ r l, we1 (ix2 r l) = (a.E l : EReal)

namespace Blocks
variable {a : Args} (B : Blocks a)

/-- The state after the first phase, -/
def st2 : Carry Ideal := gather B.i1 B.ln1 B.x1 (gather B.i0 B.ln0 B.x0 start)
/-- what is derived from it, -/
def nm : Norm Ideal := norm B.g B.bt B.wu B.wv B.bv B.st2
/-- the state after the second phase's first block -/
def st3 : Carry Ideal := attend B.s0 B.x0 B.we0 B.nm B.st2
/-- and after its second. -/
def st4 : Carry Ideal := attend B.s1 B.x1 B.we1 B.nm B.st3

/-- Both blocks' lane sums add up to the sum over the rows. -/
theorem lanes (f : Fin 32768 → ℝ) :
    ∑ q, (0 + ∑ k, f (row0 (fold8 k q)) + ∑ k, f (row1 (fold8 k q))) = ∑ n, f n := by
  rw [sum_rows f, ← sum_fold8 fun r => f (row0 r), ← sum_fold8 fun r => f (row1 r), ← Finset.sum_add_distrib]
  exact Finset.sum_congr rfl fun q _ => by rw [zero_add]

/-- The lane sums, -/
theorem sum_eq (q : Fin 8) (l : Fin 128) :
    B.st2.sum (ix2 q l) = ((0 + ∑ k, a.X (row0 (fold8 k q)) l + ∑ k, a.X (row1 (fold8 k q)) l : ℝ) : EReal) :=
  sum_read B.x1 _ (fun r l => a.X (row1 r) l) (fun q l => 0 + ∑ k, a.X (row0 (fold8 k q)) l) B.hx1
    (sum_read B.x0 _ (fun r l => a.X (row0 r) l) (fun _ _ => 0) B.hx0 fun q l => by
      show k0_pay1 (F := Ideal) (ix2 q l) = _
      unfold k0_pay1; pointwise; exact EReal.coe_zero.symm) q l

/-- those of the squares, -/
theorem sq_eq (q : Fin 8) (l : Fin 128) :
    B.st2.sq (ix2 q l) = ((0 + ∑ k, a.X (row0 (fold8 k q)) l * a.X (row0 (fold8 k q)) l
      + ∑ k, a.X (row1 (fold8 k q)) l * a.X (row1 (fold8 k q)) l : ℝ) : EReal) :=
  sq_read B.x1 _ (fun r l => a.X (row1 r) l) (fun q l => 0 + ∑ k, a.X (row0 (fold8 k q)) l * a.X (row0 (fold8 k q)) l) B.hx1
    (sq_read B.x0 _ (fun r l => a.X (row0 r) l) (fun _ _ => 0) B.hx0 fun q l => by
      show k0_pay2 (F := Ideal) (ix2 q l) = _
      unfold k0_pay2; pointwise; exact EReal.coe_zero.symm) q l

/-- and the last nodes' rows. -/
theorem fl_eq (b : Fin 16) (l : Fin 128) : B.st2.fl (ix2 b l) = (a.X (a.last b) l : EReal) := by
  have h0 : start.fl (F := Ideal) (ix2 b l) = (0 : EReal) := by
    show k0_pay3 (F := Ideal) (ix2 b l) = _
    unfold k0_pay3; pointwise
  have h1 := last_read (BitVec.ofNat 32 (B.i0 1).val) B.x0 B.ln0 (start.fl) (fun r l => a.X (row0 r) l) B.hx0 b l
  have h2 := last_read (BitVec.ofNat 32 (B.i1 1).val) B.x1 B.ln1 (k0_pay7 (k0_pay17 (BitVec.ofNat 32 (B.i0 1).val) B.x0 B.ln0 start.fl))
    (fun r l => a.X (row1 r) l) B.hx1 b l
  refine h2.trans ?_
  rw [h1, h0, zero_add, ← sum_pick (a.last b) (fun n => (a.X n l : EReal)), sum_rows, B.hi0, B.hi1, B.hln0, B.hln1]
  have hw : ∀ (i r : ℕ), i < 2 → r < 16384 → IntOp.addi (Scalar.muli (BitVec.ofNat 32 i) 16384#32) (BitVec.ofNat 32 r) = BitVec.ofNat 32 (16384 * i + r) := by
    intro i r hi hr
    show BitVec.ofNat 32 i * 16384#32 + BitVec.ofNat 32 r = _
    rw [Nat.mul_comm, BitVec.ofNat_add, BitVec.ofNat_mul]
  refine congrArg₂ (fun u v : EReal => u + v) ?_ ?_
  · refine Finset.sum_congr rfl fun r _ => congrArg (· * _) (if_congr ?_ rfl rfl)
    rw [hw 0 r.val (by omega) r.isLt, word_inj (by omega) (by omega), Fin.ext_iff, mul_zero, zero_add]
    rfl
  · refine Finset.sum_congr rfl fun r _ => congrArg (· * _) (if_congr ?_ rfl rfl)
    rw [hw 1 r.val (by omega) r.isLt, word_inj (by omega) (by omega), Fin.ext_iff]
    rfl

/-- The mean, -/
theorem mean_eq (r : Fin 1) (l : Fin 128) : k0_pay18 B.st2.sum (ix2 r l) = (a.mean l : EReal) := by
  rw [mean_read _ _ B.sum_eq, lanes fun n => a.X n l]; rfl

/-- the scale, -/
theorem scale_eq (r : Fin 1) (l : Fin 128) : k0_pay19 B.st2.sum B.st2.sq B.g (ix2 r l) = (a.sc l : EReal) :=
  scale_read _ _ B.g a.mean (fun l => (∑ n, a.X n l * a.X n l) / 32768) a.G (fun l => a.var l + eps) B.mean_eq
    (fun r l => by rw [mean_read _ _ B.sq_eq, lanes fun n => a.X n l * a.X n l]) B.hg
    (fun l => by rw [Args.var, Args.mean, variance]) a.var_pos r l

/-- the shift, -/
theorem shift_eq (r : Fin 1) (l : Fin 128) : k0_pay20 B.st2.sum B.st2.sq B.g B.bt (ix2 r l) = a.sh l :=
  shift_read _ _ B.g B.bt a.mean a.sc a.β B.mean_eq B.scale_eq B.hbt r l

/-- the scaled weights -/
theorem wu_eq (k l : Fin 128) : B.nm.wu (ix2 k l) = ((a.sc k * a.U k l : ℝ) : EReal) :=
  weights_read _ _ B.g B.wu a.sc a.U B.scale_eq B.hwu k l

/-- and the last nodes' product. -/
theorem fv_eq (b : Fin 16) (l : Fin 128) : B.nm.fv (ix2 b l) = a.fv b l + ∑ k, a.sh k * (a.U k l : EReal) := by
  refine (vb_read _ _ B.wu B.wv _ B.bv b l).trans ?_
  rw [B.hbv, Args.fv]
  refine congrArg₂ (fun u v : EReal => u + v) ?_ ?_
  · refine congrArg (fun z : EReal => z + a.c l) (Finset.sum_congr rfl fun k _ => ?_)
    rw [B.fl_eq, B.scale_eq, B.shift_eq, B.hwv, Args.bn, EReal.coe_mul]
  · exact Finset.sum_congr rfl fun k _ => by rw [B.shift_eq, B.hwu]

/-- The logits of the first block's members, -/
theorem logit0 (b : Fin 16) (r : Fin 16384) (h : a.mem b (row0 r)) :
    k0_pay25 B.x0 B.nm.wu B.s0 B.nm.fv B.we0 (ix2 0 r) = (a.logit b (row0 r) : EReal) := by
  rw [logit_read _ _ _ _ _ 0 r b (h.trans (B.hs0 r).symm), ← Args.logit_eq]
  refine Finset.sum_congr rfl fun h _ => ?_
  rw [B.hwe0, B.fv_eq, Args.pre]
  refine congrArg (fun z => _ * Ideal.logistic (z + _)) (Finset.sum_congr rfl fun k _ => ?_)
  rw [B.hx0, B.wu_eq, ← EReal.coe_mul]

/-- and of the second's. -/
theorem logit1 (b : Fin 16) (r : Fin 16384) (h : a.mem b (row1 r)) :
    k0_pay25 B.x1 B.nm.wu B.s1 B.nm.fv B.we1 (ix2 0 r) = (a.logit b (row1 r) : EReal) := by
  rw [logit_read _ _ _ _ _ 0 r b (h.trans (B.hs1 r).symm), ← Args.logit_eq]
  refine Finset.sum_congr rfl fun h _ => ?_
  rw [B.hwe1, B.fv_eq, Args.pre]
  refine congrArg (fun z => _ * Ideal.logistic (z + _)) (Finset.sum_congr rfl fun k _ => ?_)
  rw [B.hx1, B.wu_eq, ← EReal.coe_mul]

/-! ## The running softmax -/

section
variable (b : Fin 16)

/-- Membership in the blocks is the words' equality. -/
theorem mem0 (r : Fin 16384) : BitVec.ofNat 32 b.val = B.s0 (ix3 0 0 r) ↔ a.mem b (row0 r) := by rw [B.hs0]; rfl
theorem mem1 (r : Fin 16384) : BitVec.ofNat 32 b.val = B.s1 (ix3 0 0 r) ↔ a.mem b (row1 r) := by rw [B.hs1]; rfl

/-- The first block's largest logit, -/
def top0 (a : Args) (b : Fin 16) : EReal := top (fun r => a.mem b (row0 r)) (fun r => a.logit b (row0 r))
/-- and the second's. -/
def top1 (a : Args) (b : Fin 16) : EReal := top (fun r => a.mem b (row1 r)) (fun r => a.logit b (row1 r))

/-- The maximum starts at minus infinity, the sums at zero. -/
theorem mx2 (l : Fin 1) : B.st2.mx (ix2 b l) = (⊥ : EReal) := by
  show k0_pay4 (F := Ideal) (ix2 b l) = _
  unfold k0_pay4; pointwise; exact bot_word
theorem den2 (l : Fin 1) : B.st2.den (ix2 b l) = (0 : EReal) := by
  show k0_pay5 (F := Ideal) (ix2 b l) = _
  unfold k0_pay5; pointwise
theorem acc2 (l : Fin 128) : B.st2.acc (ix2 b l) = (0 : EReal) := by
  show k0_pay6 (F := Ideal) (ix2 b l) = _
  unfold k0_pay6; pointwise

/-- The first block's maximum, -/
theorem mx3 (l : Fin 1) : B.st3.mx (ix2 b l) = top0 a b := by
  have h : B.st3.mx (ix2 b l) = k0_pay26 B.x0 B.nm.wu B.s0 B.nm.fv B.we0 B.st2.mx (ix2 b l) := by
    show k0_pay12 (k0_pay26 B.x0 B.nm.wu B.s0 B.nm.fv B.we0 B.st2.mx) (ix2 b l) = _
    unfold k0_pay12
    pointwise
  refine h.trans ((max_read B.x0 B.nm.wu B.s0 B.nm.fv B.we0 b _ _ (B.mem0 b) (B.logit0 b) B.st2.mx l).trans ?_)
  rw [B.mx2, max_eq_right bot_le]; rfl

/-- total weight -/
theorem den3 (l : Fin 1) : B.st3.den (ix2 b l)
    = ∑ r, part (fun r => a.mem b (row0 r)) (fun r => a.logit b (row0 r)) (top0 a b) r := by
  refine (den_read B.x0 B.nm.wu B.s0 B.nm.fv B.we0 b _ _ (B.mem0 b) (B.logit0 b) B.st2.mx B.st2.den l).trans ?_
  rw [B.den2, B.mx2, max_eq_right bot_le, zero_mul, zero_add]; rfl

/-- and weighted sum. -/
theorem acc3 (l : Fin 128) : B.st3.acc (ix2 b l)
    = ∑ r, part (fun r => a.mem b (row0 r)) (fun r => a.logit b (row0 r)) (top0 a b) r * (a.X (row0 r) l : EReal) := by
  refine (acc_read B.x0 B.nm.wu B.s0 B.nm.fv B.we0 b _ _ (B.mem0 b) (B.logit0 b) B.st2.mx B.st2.acc (fun r l => a.X (row0 r) l) B.hx0 l).trans ?_
  rw [B.acc2, B.mx2, max_eq_right bot_le, zero_mul, zero_add]; rfl

/-- The total weight after both blocks, -/
theorem den4 (l : Fin 1) : B.st4.den (ix2 b l)
    = (∑ r, part (fun r => a.mem b (row0 r)) (fun r => a.logit b (row0 r)) (top0 a b) r * ((1 : ℝ) : EReal)) * rescale (top0 a b) (max (top0 a b) (top1 a b))
      + ∑ r, part (fun r => a.mem b (row1 r)) (fun r => a.logit b (row1 r)) (max (top0 a b) (top1 a b)) r * ((1 : ℝ) : EReal) := by
  refine (den_read B.x1 B.nm.wu B.s1 B.nm.fv B.we1 b _ _ (B.mem1 b) (B.logit1 b) B.st3.mx B.st3.den l).trans ?_
  rw [B.den3, B.mx3]
  simp only [EReal.coe_one, mul_one]
  rfl

/-- and the weighted sum. -/
theorem acc4 (l : Fin 128) : B.st4.acc (ix2 b l)
    = (∑ r, part (fun r => a.mem b (row0 r)) (fun r => a.logit b (row0 r)) (top0 a b) r * (a.X (row0 r) l : EReal)) * rescale (top0 a b) (max (top0 a b) (top1 a b))
      + ∑ r, part (fun r => a.mem b (row1 r)) (fun r => a.logit b (row1 r)) (max (top0 a b) (top1 a b)) r * (a.X (row1 r) l : EReal) := by
  refine (acc_read B.x1 B.nm.wu B.s1 B.nm.fv B.we1 b _ _ (B.mem1 b) (B.logit1 b) B.st3.mx B.st3.acc (fun r l => a.X (row1 r) l) B.hx1 l).trans ?_
  rw [B.acc3, B.mx3]
  rfl

/-- What the last point stores: nothing for a segment without members, the readout otherwise. -/
theorem readout_eq (l : Fin 128) :
    ((∀ n, ¬a.mem b n) ∧ readout B.nm B.st4 (ix2 b l) = (0 : EReal)) ∨
      ∃ T, a.IsTop b T ∧ readout B.nm B.st4 (ix2 b l) = a.readout b T l := by
  have hread := readout_read B.st4.den B.st4.acc B.nm.sc B.nm.sh b l
  have hsc : B.nm.sc (ix2 0 l) = (a.sc l : EReal) := (scale_kept _ _ _ 0 l).trans (B.scale_eq 0 l)
  have hsh : B.nm.sh (ix2 0 l) = a.sh l := (shift_kept _ _ _ _ 0 l).trans (B.shift_eq 0 l)
  have key : ∀ T, (∀ r, a.mem b (row0 r) → a.logit b (row0 r) ≤ T) → (∀ r, a.mem b (row1 r) → a.logit b (row1 r) ≤ T) →
      ((∃ r, a.mem b (row0 r) ∧ a.logit b (row0 r) = T) ∨ ∃ r, a.mem b (row1 r) ∧ a.logit b (row1 r) = T) → a.IsTop b T := by
    intro T h0 h1 h
    refine ⟨fun n hn => ?_, ?_⟩
    · rcases row_cases n with ⟨r, rfl⟩ | ⟨r, rfl⟩
      · exact h0 r hn
      · exact h1 r hn
    · rcases h with ⟨r, hr⟩ | ⟨r, hr⟩
      · exact ⟨_, hr⟩
      · exact ⟨_, hr⟩
  have uniq : ∀ S T, a.IsTop b S → a.IsTop b T → S = T := by
    rintro S T ⟨hS, n, hn, rfl⟩ ⟨hT, k, hk, rfl⟩
    exact le_antisymm (hT n hn) (hS k hk)
  rcases online (fun r => a.mem b (row0 r)) (fun r => a.logit b (row0 r)) (fun r => a.mem b (row1 r)) (fun r => a.logit b (row1 r))
    (fun _ => 1) (fun _ => 1) with ⟨h0, h1, hd⟩ | ⟨T, hT0, hT1, hTa, hd⟩
  · refine .inl ⟨fun n => ?_, ?_⟩
    · rcases row_cases n with ⟨r, rfl⟩ | ⟨r, rfl⟩
      · exact h0 r
      · exact h1 r
    · have hd' : B.st4.den (ix2 b 0) = (0 : EReal) := (B.den4 b 0).trans hd
      refine hread.trans ?_
      rw [hd', if_neg (lt_irrefl _), if_neg (lt_irrefl _), mul_zero, zero_mul, zero_mul, add_zero]
  · have hTop := key T hT0 hT1 hTa
    refine .inr ⟨T, hTop, ?_⟩
    have hd' : B.st4.den (ix2 b 0) = ((∑ n, weight (a.mem b) (a.logit b) T n : ℝ) : EReal) := by
      refine ((B.den4 b 0).trans hd).trans ?_
      rw [sum_rows]
      simp only [mul_one]
      rfl
    have ha' : B.st4.acc (ix2 b l) = ((∑ n, weight (a.mem b) (a.logit b) T n * a.X n l : ℝ) : EReal) := by
      refine (B.acc4 b l).trans ?_
      rcases online (fun r => a.mem b (row0 r)) (fun r => a.logit b (row0 r)) (fun r => a.mem b (row1 r)) (fun r => a.logit b (row1 r))
        (fun r => a.X (row0 r) l) (fun r => a.X (row1 r) l) with ⟨h0, h1, _⟩ | ⟨S, hS0, hS1, hSa, hs⟩
      · rcases hTa with ⟨r, hr, _⟩ | ⟨r, hr, _⟩
        · exact absurd hr (h0 r)
        · exact absurd hr (h1 r)
      · obtain rfl := uniq S T (key S hS0 hS1 hSa) hTop
        refine hs.trans ?_
        rw [sum_rows]
        rfl
    have hpos : 0 < ∑ n, weight (a.mem b) (a.logit b) T n := a.total_pos b T ⟨_, hTop.2.choose_spec.1⟩
    have hpos' : (0 : EReal) < ((∑ n, weight (a.mem b) (a.logit b) T n : ℝ) : EReal) := EReal.coe_pos.2 hpos
    refine hread.trans ?_
    rw [hd', ha', if_pos hpos', if_pos hpos', hsc, hsh, readout_sum (fun n => a.X n l) _ (fun n => weight_nonneg _ _ _ n) _ _ hpos]
    rfl

end

end Blocks
end Cert.KernelIdeal.Own

end
-- ==== Proof.KernelIdeal.Final.lean ====
/- The launch's result: the output array after the run, and the blocks the four points read, in terms of the arguments. -/
module

public import proofs.«01_k».proof.Proof.KernelIdeal.Launch
public import proofs.«01_k».proof.Proof.KernelIdeal.Value
public import Idealize.ShloMosaic.Lib.Pointwise

@[expose] public section

set_option maxRecDepth 16384

noncomputable section

namespace Cert.KernelIdeal.Own

open Cert.KernelIdeal Cert.KernelIdeal.Gen
open Cert.Maths (row0 row1)
open Idealize.ShloMosaic Idealize.ShloMosaic.TcCoe Idealize.ShloMosaic.Tactic
open Idealize.SL.Sem
open Idealize.ShloMosaic.Pipeline (Dat Cfg Window BodyObligation cellOf)

section
variable {F : FTy → Type} [FloatOps F]
variable (m : (ℓ : Loc nD τ sig) → Buf (Elt F) ℓ) (ρ : Dev nD → PrngReg)

/-- The output's window never moves. -/
theorem still9 : ∀ t : Fin cfg0.N, win0_9.index t (0 : Fin 2) = 0 ∧ win0_9.index t (1 : Fin 2) = 0 :=
  (by decide +kernel : ∀ t : Fin grid0.N, _)

/-- What a point writes back is the whole result. -/
theorem flushed9 (c : Dev nD) (t : Fin cfg0.N) (hf : (cfg0.win 9).flush t = true) :
    (dats m 0 c).flushed 9 t = ((cfg0.win 9).blk t).view.read (Elt F) (result m c : Buf (Elt F) ((c : Thread nD τ).loc main_v6)) := by
  show (cfg0.win 9).cut (grid0.coords t) ((dats m 0 c).after 9 t) = _
  rw [after0_9]
  obtain ⟨e0, e1⟩ := still9 t
  funext y
  show result m c ((cfg0.win 9).xinj (grid0.coords t) y) = result m c (((cfg0.win 9).blk t).view.emb y)
  congr 1
  funext a
  apply Fin.ext
  match a with
  | ⟨0, _⟩ => show (y 0).val = win0_9.index t (0 : Fin 2) * 16 + 1 * (y 0).val; omega
  | ⟨1, _⟩ => show (y 1).val = win0_9.index t (1 : Fin 2) * 128 + 1 * (y 1).val; omega

/-- Every index of the array is in the block written back last. -/
theorem covered9 (i : S16x128.Idx) : ∃ t : Fin cfg0.N, (cfg0.win 9).flush t = true ∧ i ∈ ((cfg0.win 9).blk t).view.set := by
  refine ⟨t0_3, (flush0_9 t0_3).2 rfl, ?_⟩
  show i ∈ ((View.whole main_v6).slice (win0_9.rect t0_3)).set
  rw [View.set_slice_whole, Rect.mem_set_unit]
  have h0 : (i 0).val < 16 := (i 0).isLt
  have h1 : (i 1).val < 128 := (i 1).isLt
  obtain ⟨e0, e1⟩ := still9 t0_3
  intro a
  match a with
  | ⟨0, _⟩ => show win0_9.index t0_3 (0 : Fin 2) * 16 ≤ (i 0).val ∧ (i 0).val < win0_9.index t0_3 (0 : Fin 2) * 16 + 16; omega
  | ⟨1, _⟩ => show win0_9.index t0_3 (1 : Fin 2) * 128 ≤ (i 1).val ∧ (i 1).val < win0_9.index t0_3 (1 : Fin 2) * 128 + 128; omega

/-- The output array after the run is the last point's result. -/
theorem final (c : Dev nD) : (dats m 0 c).arrAt 9 cfg0.N = result m c :=
  (dats m 0 c).arrAt_eq_of_cover 9 _ (fun t hf => flushed9 m c t hf) covered9

/-- The run: the output holds the result, the arguments are as launched. -/
theorem run : θ_run defs (onTc (τ := τ) (main (F := F))) ⟨m, fun _ => 0, ρ⟩ (fun r => ∀ c : Dev nD,
      r.2.mem ((c.tc : Thread nD τ).loc main_v6) = result m c ∧ (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8))) :=
  (θ_run defs _ _).mono (fun r h c => ⟨((h.1.1 c).1 9).trans (final m c), h.2.1 c⟩) (θ_run_and (run_quiescent m ρ) (frame m ρ))

end

/-! ## The blocks read -/

section
variable {F : FTy → Type} [FloatOps F]
variable (m : (ℓ : Loc nD τ sig) → Buf (Elt F) ℓ)

/-- The reshaped arguments when the region is entered. -/
theorem V_v0 (c : Dev nD) : V m c main_v0 = shapeCast S2x1x16384 (m ((c : Thread nD τ).loc main_arg7)) shapeCasts_S32768_S2x1x16384 := rfl
theorem V_v1 (c : Dev nD) : V m c main_v1 = shapeCast S1x16 (m ((c : Thread nD τ).loc main_arg8)) shapeCasts_S16_S1x16 := rfl
theorem V_v2 (c : Dev nD) : V m c main_v2 = shapeCast S1x128 (m ((c : Thread nD τ).loc main_arg1)) shapeCasts_S128_S1x128 := rfl
theorem V_v3 (c : Dev nD) : V m c main_v3 = shapeCast S1x128 (m ((c : Thread nD τ).loc main_arg2)) shapeCasts_S128_S1x128 := rfl
theorem V_v4 (c : Dev nD) : V m c main_v4 = shapeCast S1x128 (m ((c : Thread nD τ).loc main_arg5)) shapeCasts_S128_S1x128 := rfl
theorem V_v5 (c : Dev nD) : V m c main_v5 = shapeCast S1x128 (m ((c : Thread nD τ).loc main_arg6)) shapeCasts_S128x1_S1x128 := rfl

/-- Window 1 stays at its whole array. -/
theorem still1 : ∀ t : Fin cfg0.N, win0_1.index t (0 : Fin 2) = 0 ∧ win0_1.index t (1 : Fin 2) = 0 :=
  (by decide +kernel : ∀ t : Fin grid0.N, _)
theorem block1 (c : Dev nD) (t : Fin cfg0.N) (r : Fin 1) (l : Fin 16) : iblk m c 1 t (ix2 r l) = V m c main_v1 (ix2 r l) := by
  obtain ⟨e0, e1⟩ := still1 t
  show V m c main_v1 (((cfg0.win 1).blk t).view.emb (ix2 r l)) = _
  congr 1
  funext a
  apply Fin.ext
  match a with
  | ⟨0, _⟩ => show win0_1.index t (0 : Fin 2) * 1 + 1 * r.val = r.val; omega
  | ⟨1, _⟩ => show win0_1.index t (1 : Fin 2) * 16 + 1 * l.val = l.val; omega

/-- Window 3 stays at its whole array. -/
theorem still3 : ∀ t : Fin cfg0.N, win0_3.index t (0 : Fin 2) = 0 ∧ win0_3.index t (1 : Fin 2) = 0 :=
  (by decide +kernel : ∀ t : Fin grid0.N, _)
theorem block3 (c : Dev nD) (t : Fin cfg0.N) (r : Fin 1) (l : Fin 128) : iblk m c 3 t (ix2 r l) = V m c main_v2 (ix2 r l) := by
  obtain ⟨e0, e1⟩ := still3 t
  show V m c main_v2 (((cfg0.win 3).blk t).view.emb (ix2 r l)) = _
  congr 1
  funext a
  apply Fin.ext
  match a with
  | ⟨0, _⟩ => show win0_3.index t (0 : Fin 2) * 1 + 1 * r.val = r.val; omega
  | ⟨1, _⟩ => show win0_3.index t (1 : Fin 2) * 128 + 1 * l.val = l.val; omega

/-- Window 4 stays at its whole array. -/
theorem still4 : ∀ t : Fin cfg0.N, win0_4.index t (0 : Fin 2) = 0 ∧ win0_4.index t (1 : Fin 2) = 0 :=
  (by decide +kernel : ∀ t : Fin grid0.N, _)
theorem block4 (c : Dev nD) (t : Fin cfg0.N) (r : Fin 1) (l : Fin 128) : iblk m c 4 t (ix2 r l) = V m c main_v3 (ix2 r l) := by
  obtain ⟨e0, e1⟩ := still4 t
  show V m c main_v3 (((cfg0.win 4).blk t).view.emb (ix2 r l)) = _
  congr 1
  funext a
  apply Fin.ext
  match a with
  | ⟨0, _⟩ => show win0_4.index t (0 : Fin 2) * 1 + 1 * r.val = r.val; omega
  | ⟨1, _⟩ => show win0_4.index t (1 : Fin 2) * 128 + 1 * l.val = l.val; omega

/-- Window 5 stays at its whole array. -/
theorem still5 : ∀ t : Fin cfg0.N, win0_5.index t (0 : Fin 2) = 0 ∧ win0_5.index t (1 : Fin 2) = 0 :=
  (by decide +kernel : ∀ t : Fin grid0.N, _)
theorem block5 (c : Dev nD) (t : Fin cfg0.N) (r : Fin 128) (l : Fin 128) : iblk m c 5 t (ix2 r l) = V m c main_arg3 (ix2 r l) := by
  obtain ⟨e0, e1⟩ := still5 t
  show V m c main_arg3 (((cfg0.win 5).blk t).view.emb (ix2 r l)) = _
  congr 1
  funext a
  apply Fin.ext
  match a with
  | ⟨0, _⟩ => show win0_5.index t (0 : Fin 2) * 128 + 1 * r.val = r.val; omega
  | ⟨1, _⟩ => show win0_5.index t (1 : Fin 2) * 128 + 1 * l.val = l.val; omega

/-- Window 6 stays at its whole array. -/
theorem still6 : ∀ t : Fin cfg0.N, win0_6.index t (0 : Fin 2) = 0 ∧ win0_6.index t (1 : Fin 2) = 0 :=
  (by decide +kernel : ∀ t : Fin grid0.N, _)
theorem block6 (c : Dev nD) (t : Fin cfg0.N) (r : Fin 128) (l : Fin 128) : iblk m c 6 t (ix2 r l) = V m c main_arg4 (ix2 r l) := by
  obtain ⟨e0, e1⟩ := still6 t
  show V m c main_arg4 (((cfg0.win 6).blk t).view.emb (ix2 r l)) = _
  congr 1
  funext a
  apply Fin.ext
  match a with
  | ⟨0, _⟩ => show win0_6.index t (0 : Fin 2) * 128 + 1 * r.val = r.val; omega
  | ⟨1, _⟩ => show win0_6.index t (1 : Fin 2) * 128 + 1 * l.val = l.val; omega

/-- Window 7 stays at its whole array. -/
theorem still7 : ∀ t : Fin cfg0.N, win0_7.index t (0 : Fin 2) = 0 ∧ win0_7.index t (1 : Fin 2) = 0 :=
  (by decide +kernel : ∀ t : Fin grid0.N, _)
theorem block7 (c : Dev nD) (t : Fin cfg0.N) (r : Fin 1) (l : Fin 128) : iblk m c 7 t (ix2 r l) = V m c main_v4 (ix2 r l) := by
  obtain ⟨e0, e1⟩ := still7 t
  show V m c main_v4 (((cfg0.win 7).blk t).view.emb (ix2 r l)) = _
  congr 1
  funext a
  apply Fin.ext
  match a with
  | ⟨0, _⟩ => show win0_7.index t (0 : Fin 2) * 1 + 1 * r.val = r.val; omega
  | ⟨1, _⟩ => show win0_7.index t (1 : Fin 2) * 128 + 1 * l.val = l.val; omega

/-- Window 8 stays at its whole array. -/
theorem still8 : ∀ t : Fin cfg0.N, win0_8.index t (0 : Fin 2) = 0 ∧ win0_8.index t (1 : Fin 2) = 0 :=
  (by decide +kernel : ∀ t : Fin grid0.N, _)
theorem block8 (c : Dev nD) (t : Fin cfg0.N) (r : Fin 1) (l : Fin 128) : iblk m c 8 t (ix2 r l) = V m c main_v5 (ix2 r l) := by
  obtain ⟨e0, e1⟩ := still8 t
  show V m c main_v5 (((cfg0.win 8).blk t).view.emb (ix2 r l)) = _
  congr 1
  funext a
  apply Fin.ext
  match a with
  | ⟨0, _⟩ => show win0_8.index t (0 : Fin 2) * 1 + 1 * r.val = r.val; omega
  | ⟨1, _⟩ => show win0_8.index t (1 : Fin 2) * 128 + 1 * l.val = l.val; omega

/-- The features' block at point 0. -/
theorem rows_at0 (c : Dev nD) (r : Fin 16384) (l : Fin 128) : iblk m c 2 t0_0 (ix2 r l) = m ((c : Thread nD τ).loc main_arg0) (ix2 (row0 r) l) := by
  have e : win0_2.index t0_0 (0 : Fin 2) = 0 ∧ win0_2.index t0_0 (1 : Fin 2) = 0 := by decide +kernel
  rw [← V_main_arg0 m c]
  show V m c main_arg0 (((cfg0.win 2).blk t0_0).view.emb (ix2 r l)) = _
  congr 1
  funext a
  apply Fin.ext
  match a with
  | ⟨0, _⟩ => show win0_2.index t0_0 (0 : Fin 2) * 16384 + 1 * r.val = (row0 r).val; simp only [row0]; omega
  | ⟨1, _⟩ => show win0_2.index t0_0 (1 : Fin 2) * 128 + 1 * l.val = l.val; omega

/-- The features' block at point 1. -/
theorem rows_at1 (c : Dev nD) (r : Fin 16384) (l : Fin 128) : iblk m c 2 t0_1 (ix2 r l) = m ((c : Thread nD τ).loc main_arg0) (ix2 (row1 r) l) := by
  have e : win0_2.index t0_1 (0 : Fin 2) = 1 ∧ win0_2.index t0_1 (1 : Fin 2) = 0 := by decide +kernel
  rw [← V_main_arg0 m c]
  show V m c main_arg0 (((cfg0.win 2).blk t0_1).view.emb (ix2 r l)) = _
  congr 1
  funext a
  apply Fin.ext
  match a with
  | ⟨0, _⟩ => show win0_2.index t0_1 (0 : Fin 2) * 16384 + 1 * r.val = (row1 r).val; simp only [row1]; omega
  | ⟨1, _⟩ => show win0_2.index t0_1 (1 : Fin 2) * 128 + 1 * l.val = l.val; omega

/-- The features' block at point 2. -/
theorem rows_at2 (c : Dev nD) (r : Fin 16384) (l : Fin 128) : iblk m c 2 t0_2 (ix2 r l) = m ((c : Thread nD τ).loc main_arg0) (ix2 (row0 r) l) := by
  have e : win0_2.index t0_2 (0 : Fin 2) = 0 ∧ win0_2.index t0_2 (1 : Fin 2) = 0 := by decide +kernel
  rw [← V_main_arg0 m c]
  show V m c main_arg0 (((cfg0.win 2).blk t0_2).view.emb (ix2 r l)) = _
  congr 1
  funext a
  apply Fin.ext
  match a with
  | ⟨0, _⟩ => show win0_2.index t0_2 (0 : Fin 2) * 16384 + 1 * r.val = (row0 r).val; simp only [row0]; omega
  | ⟨1, _⟩ => show win0_2.index t0_2 (1 : Fin 2) * 128 + 1 * l.val = l.val; omega

/-- The features' block at point 3. -/
theorem rows_at3 (c : Dev nD) (r : Fin 16384) (l : Fin 128) : iblk m c 2 t0_3 (ix2 r l) = m ((c : Thread nD τ).loc main_arg0) (ix2 (row1 r) l) := by
  have e : win0_2.index t0_3 (0 : Fin 2) = 1 ∧ win0_2.index t0_3 (1 : Fin 2) = 0 := by decide +kernel
  rw [← V_main_arg0 m c]
  show V m c main_arg0 (((cfg0.win 2).blk t0_3).view.emb (ix2 r l)) = _
  congr 1
  funext a
  apply Fin.ext
  match a with
  | ⟨0, _⟩ => show win0_2.index t0_3 (0 : Fin 2) * 16384 + 1 * r.val = (row1 r).val; simp only [row1]; omega
  | ⟨1, _⟩ => show win0_2.index t0_3 (1 : Fin 2) * 128 + 1 * l.val = l.val; omega

/-- The segment words' block at point 2. -/
theorem segs_at2 (c : Dev nD) (r : Fin 16384) : iblk m c 0 t0_2 (ix3 0 0 r) = m ((c : Thread nD τ).loc main_arg7) (ix1 (row0 r)) := by
  have e : win0_0.index t0_2 (0 : Fin 3) = 0 ∧ win0_0.index t0_2 (1 : Fin 3) = 0 ∧ win0_0.index t0_2 (2 : Fin 3) = 0 := by decide +kernel
  have h : iblk m c 0 t0_2 (ix3 0 0 r) = V m c main_v0 (ix3 0 0 r) := by
    show V m c main_v0 (((cfg0.win 0).blk t0_2).view.emb (ix3 0 0 r)) = _
    congr 1
    funext a
    apply Fin.ext
    match a with
    | ⟨0, _⟩ => show win0_0.index t0_2 (0 : Fin 3) * 1 + 1 * 0 = 0; omega
    | ⟨1, _⟩ => show win0_0.index t0_2 (1 : Fin 3) * 1 + 1 * 0 = 0; omega
    | ⟨2, _⟩ => show win0_0.index t0_2 (2 : Fin 3) * 16384 + 1 * r.val = r.val; omega
  rw [h, V_v0]
  refine shapeCast_apply _ _ _ _ ?_
  show (S32768.rowMajor (ix1 (row0 r))).val = _
  rw [rowMajor_val1, rowMajor_val3 _ 16384 16384 rfl rfl]
  show (row0 r).val = 0 * 16384 + 0 * 16384 + r.val
  have hr : (row0 r).val = r.val := rfl
  omega

/-- The segment words' block at point 3. -/
theorem segs_at3 (c : Dev nD) (r : Fin 16384) : iblk m c 0 t0_3 (ix3 0 0 r) = m ((c : Thread nD τ).loc main_arg7) (ix1 (row1 r)) := by
  have e : win0_0.index t0_3 (0 : Fin 3) = 1 ∧ win0_0.index t0_3 (1 : Fin 3) = 0 ∧ win0_0.index t0_3 (2 : Fin 3) = 0 := by decide +kernel
  have h : iblk m c 0 t0_3 (ix3 0 0 r) = V m c main_v0 (ix3 1 0 r) := by
    show V m c main_v0 (((cfg0.win 0).blk t0_3).view.emb (ix3 0 0 r)) = _
    congr 1
    funext a
    apply Fin.ext
    match a with
    | ⟨0, _⟩ => show win0_0.index t0_3 (0 : Fin 3) * 1 + 1 * 0 = 1; omega
    | ⟨1, _⟩ => show win0_0.index t0_3 (1 : Fin 3) * 1 + 1 * 0 = 0; omega
    | ⟨2, _⟩ => show win0_0.index t0_3 (2 : Fin 3) * 16384 + 1 * r.val = r.val; omega
  rw [h, V_v0]
  refine shapeCast_apply _ _ _ _ ?_
  show (S32768.rowMajor (ix1 (row1 r))).val = _
  rw [rowMajor_val1, rowMajor_val3 _ 16384 16384 rfl rfl]
  show (row1 r).val = 1 * 16384 + 0 * 16384 + r.val
  have hr : (row1 r).val = 16384 + r.val := rfl
  omega

/-- Window 1's block, in terms of the argument. -/
theorem last_at (c : Dev nD) (t : Fin cfg0.N) (r : Fin 1) (l : Fin 16) : iblk m c 1 t (ix2 r l) = m ((c : Thread nD τ).loc main_arg8) (ix1 l) := by
  rw [block1, V_v1]
  pointwise

/-- Window 3's block, in terms of the argument. -/
theorem gamma_at (c : Dev nD) (t : Fin cfg0.N) (r : Fin 1) (l : Fin 128) : iblk m c 3 t (ix2 r l) = m ((c : Thread nD τ).loc main_arg1) (ix1 l) := by
  rw [block3, V_v2]
  pointwise

/-- Window 4's block, in terms of the argument. -/
theorem beta_at (c : Dev nD) (t : Fin cfg0.N) (r : Fin 1) (l : Fin 128) : iblk m c 4 t (ix2 r l) = m ((c : Thread nD τ).loc main_arg2) (ix1 l) := by
  rw [block4, V_v3]
  pointwise

/-- Window 7's block, in terms of the argument. -/
theorem bias_at (c : Dev nD) (t : Fin cfg0.N) (r : Fin 1) (l : Fin 128) : iblk m c 7 t (ix2 r l) = m ((c : Thread nD τ).loc main_arg5) (ix1 l) := by
  rw [block7, V_v4]
  pointwise

/-- Window 8's block, in terms of the argument. -/
theorem we_at (c : Dev nD) (t : Fin cfg0.N) (r : Fin 1) (l : Fin 128) : iblk m c 8 t (ix2 r l) = m ((c : Thread nD τ).loc main_arg6) (ix2 l 0) := by
  rw [block8, V_v5]
  pointwise

end
end Cert.KernelIdeal.Own

end
-- ==== Proof.ReferenceIdeal.Read.lean ====
/- The reference's result read at an index: its term in named parts, each part on plain indices. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Own

open Cert.ReferenceIdeal Cert.ReferenceIdeal.Gen Idealize.ShloMosaic Idealize.ShloMosaic.TcCoe
open Cert.Maths

/-! ## The term in parts -/

/-- The mean, -/
def vmean (x : FVec Ideal S32768x128 .f32) : FVec Ideal S128 .f32 :=
  Host.divf (Host.reduceAdd x (constant S_ .f32 0x00000000#32) reducesTo_S32768x128_S128_d0 h_S_) (broadcastInDim S128 ![] bcast_S_S128 (constant S_ .f32 0x47000000#32))
/-- the same as one row, -/
def vmean2 (x : FVec Ideal S32768x128 .f32) : FVec Ideal S1x128 .f32 :=
  Host.divf (broadcastInDim S1x128 ![1] bcast_S128_S1x128_1 (Host.reduceAdd x (constant S_ .f32 0x00000000#32) reducesTo_S32768x128_S128_d0 h_S_)) (broadcastInDim S1x128 ![] bcast_S_S1x128 (constant S_ .f32 0x47000000#32))
/-- the squared differences from a row, -/
def vdiff2 (x : FVec Ideal S32768x128 .f32) (μ : FVec Ideal S1x128 .f32) : FVec Ideal S32768x128 .f32 :=
  mulf (subf x (broadcastInDim S32768x128 ![0, 1] bcast_S1x128_S32768x128_0_1 μ)) (subf x (broadcastInDim S32768x128 ![0, 1] bcast_S1x128_S32768x128_0_1 μ))
/-- the variance from them, -/
def vvar (y : FVec Ideal S32768x128 .f32) : FVec Ideal S128 .f32 :=
  select (broadcastInDim S128 ![] bcast_S_S128 (cmpf .ogt (subf (constant S_ .f32 0x47000000#32) (sitofp .f32 (constantI S_ 32 0#32)) : FVec Ideal S_ .f32) (constant S_ .f32 0x00000000#32))) (Host.divf (Host.reduceAdd y (constant S_ .f32 0x00000000#32) reducesTo_S32768x128_S128_d0 h_S_) (broadcastInDim S128 ![] bcast_S_S128 (subf (constant S_ .f32 0x47000000#32) (sitofp .f32 (constantI S_ 32 0#32))))) (broadcastInDim S128 ![] bcast_S_S128 (id (constant S_ .f32 0x7FC00000#32)))
/-- the normalised rows from mean and variance. -/
def vnorm (x : FVec Ideal S32768x128 .f32) (μ v g b : FVec Ideal S128 .f32) : FVec Ideal S32768x128 .f32 :=
  addf (mulf (Host.divf (subf x (broadcastInDim S32768x128 ![0, 1] bcast_S1x128_S32768x128_0_1 (broadcastInDim S1x128 ![1] bcast_S128_S1x128_1 μ))) (broadcastInDim S32768x128 ![0, 1] bcast_S1x128_S32768x128_0_1 (broadcastInDim S1x128 ![1] bcast_S128_S1x128_1 (Host.sqrt (addf v (broadcastInDim S128 ![] bcast_S_S128 (constant S_ .f32 0x3727C5AC#32))))))) (broadcastInDim S32768x128 ![0, 1] bcast_S1x128_S32768x128_0_1 (broadcastInDim S1x128 ![1] bcast_S128_S1x128_1 g))) (broadcastInDim S32768x128 ![0, 1] bcast_S1x128_S32768x128_0_1 (broadcastInDim S1x128 ![1] bcast_S128_S1x128_1 b))
/-- The last nodes' words, wrapped, -/
def vlast (l : IVec S16 32) : IVec S16 32 :=
  select (cmpi .slt l (broadcastInDim S16 ![] bcast_S_S16 (constantI S_ 32 0#32))) (addi l (broadcastInDim S16 ![] bcast_S_S16 (constantI S_ 32 32768#32))) l
/-- the segment words, wrapped. -/
def vseg (s : IVec S32768 32) : IVec S32768 32 :=
  select (cmpi .slt s (broadcastInDim S32768 ![] bcast_S_S32768 (constantI S_ 32 0#32))) (addi s (broadcastInDim S32768 ![] bcast_S_S32768 (constantI S_ 32 16#32))) s
/-- The last nodes' rows, -/
def vrows (y : FVec Ideal S32768x128 .f32) (l : IVec S16 32) : FVec Ideal S16x128 .f32 :=
  Host.gather gather_S32768x128_S16x1_S16x128_1_0_n_n_0_1_1128 y (broadcastInDim S16x1 ![0] bcast_S16_S16x1_0 l)
/-- their product, -/
def vfv (y : FVec Ideal S16x128 .f32) (w : FVec Ideal S128x128 .f32) (c : FVec Ideal S128 .f32) : FVec Ideal S16x128 .f32 :=
  addf (Host.dotGeneral dot_S16x128_S128x128_S16x128_1_0_0_1_n_n none y w) (broadcastInDim S16x128 ![0, 1] bcast_S1x128_S16x128_0_1 (broadcastInDim S1x128 ![1] bcast_S128_S1x128_1 c))
/-- each row's segment's, -/
def vof (y : FVec Ideal S16x128 .f32) (s : IVec S32768 32) : FVec Ideal S32768x128 .f32 :=
  Host.gather gather_S16x128_S32768x1_S32768x128_1_0_n_n_0_1_1128 y (broadcastInDim S32768x1 ![0] bcast_S32768_S32768x1_0 s)
/-- the logits. -/
def vlogit (y z : FVec Ideal S32768x128 .f32) (u : FVec Ideal S128x128 .f32) (e : FVec Ideal S128x1 .f32) : FVec Ideal S32768x1 .f32 :=
  Host.dotGeneral dot_S32768x128_S128x1_S32768x1_1_0_0_1_n_n none (Host.divf (broadcastInDim S32768x128 ![] bcast_S_S32768x128 (constant S_ .f32 0x3F800000#32)) (addf (broadcastInDim S32768x128 ![] bcast_S_S32768x128 (constant S_ .f32 0x3F800000#32)) (Host.exp (Host.negf (addf (Host.dotGeneral dot_S32768x128_S128x128_S32768x128_1_0_0_1_n_n none y u) z))))) e
/-- The segments' largest logits, -/
def vmax (e : FVec Ideal S32768x1 .f32) (s : IVec S32768 32) : FVec Ideal S16x1 .f32 :=
  broadcastInDim S16x1 ![0] bcast_S16_S16x1_0 (Host.reduce FloatOps.maximumf (select (cmpi .eq (broadcastInDim S16x32768 ![0, 1] bcast_S1x32768_S16x32768_0_1 (broadcastInDim S1x32768 ![1] bcast_S32768_S1x32768_1 s)) (broadcastInDim S16x32768 ![0, 1] bcast_S16x1_S16x32768_0_1 (broadcastInDim S16x1 ![0] bcast_S16_S16x1_0 (iotaInDim S16 32 0)))) (broadcastInDim S16x32768 ![0, 1] bcast_S1x32768_S16x32768_0_1 (broadcastInDim S1x32768 ![1] bcast_S32768_S1x32768_1 (shapeCast S32768 e shapeCasts_S32768x1_S32768))) (broadcastInDim S16x32768 ![] bcast_S_S16x32768 (id (constant S_ .f32 0xFF800000#32)))) (constant S_ .f32 0xFF800000#32) reducesTo_S16x32768_S16_d1 h_S_)
/-- zero in place of an infinite one, -/
def vmaxf (y : FVec Ideal S16x1 .f32) : FVec Ideal S16x1 .f32 :=
  select (cmpf .olt (Host.absf y) (broadcastInDim S16x1 ![] bcast_S_S16x1 (constant S_ .f32 0x7F800000#32))) y (broadcastInDim S16x1 ![] bcast_S_S16x1 (id (constant S_ .f32 0x00000000#32)))
/-- one per row, -/
def vone (y : FVec Ideal S16x1 .f32) (s : IVec S32768 32) : FVec Ideal S32768x1 .f32 :=
  Host.gather gather_S16x1_S32768x1_S32768x1_1_0_n_n_0_1_11 y (broadcastInDim S32768x1 ![0] bcast_S32768_S32768x1_0 s)
/-- the exponentials, -/
def vexp (e z : FVec Ideal S32768x1 .f32) : FVec Ideal S32768x1 .f32 := Host.exp (subf e z)
/-- their totals, -/
def vtot (y : FVec Ideal S32768x1 .f32) (s : IVec S32768 32) : FVec Ideal S16x1 .f32 :=
  Host.scatterAdd scatter_S16x1_S32768x1_S32768x1_1_0_0_1 (broadcastInDim S16x1 ![] bcast_S_S16x1 (constant S_ .f32 0x00000000#32)) (broadcastInDim S32768x1 ![0] bcast_S32768_S32768x1_0 s) y
/-- the weighted rows -/
def vweigh (y : FVec Ideal S32768x128 .f32) (e z : FVec Ideal S32768x1 .f32) : FVec Ideal S32768x128 .f32 :=
  mulf y (broadcastInDim S32768x128 ![0, 1] bcast_S32768x1_S32768x128_0_1 (Host.divf e z))
/-- and their sums. -/
def vsum (y : FVec Ideal S32768x128 .f32) (s : IVec S32768 32) : FVec Ideal S16x128 .f32 :=
  Host.scatterAdd scatter_S16x128_S32768x1_S32768x128_1_0_0_1 (broadcastInDim S16x128 ![] bcast_S_S16x128 (constant S_ .f32 0x00000000#32)) (broadcastInDim S32768x1 ![0] bcast_S32768_S32768x1_0 s) y

section
variable (x : FVec Ideal S32768x128 .f32) (g b : FVec Ideal S128 .f32) (u w : FVec Ideal S128x128 .f32) (c : FVec Ideal S128 .f32)
  (e : FVec Ideal S128x1 .f32) (s : IVec S32768 32) (l : IVec S16 32)

/-- The normalised rows of the arguments, -/
def tbn : FVec Ideal S32768x128 .f32 := vnorm x (vmean x) (vvar (vdiff2 x (vmean2 x))) g b
/-- their last nodes' product, -/
def tfv : FVec Ideal S16x128 .f32 := vfv (vrows (tbn x g b) (vlast l)) w c
/-- their logits, -/
def tlogit : FVec Ideal S32768x1 .f32 := vlogit (tbn x g b) (vof (tfv x g b w c l) (vseg s)) u e
/-- their exponentials -/
def texp : FVec Ideal S32768x1 .f32 := vexp (tlogit x g b u w c e s l) (vone (vmaxf (vmax (tlogit x g b u w c e s l) s)) (vseg s))
/-- and the result. -/
def tres : FVec Ideal S16x128 .f32 :=
  vsum (vweigh (tbn x g b) (texp x g b u w c e s l) (vone (vtot (texp x g b u w c e s l) s) (vseg s))) s
end

/-- The reference's term is these parts put together. -/
theorem res_eq (m : (ℓ : Loc nD τ sig) → Buf (Elt Ideal) ℓ) (c : Dev nD) :
    Value.res_main_v85 m c = tres (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := by
  unfold Value.res_main_v85 tres texp tlogit tfv tbn vsum vweigh vtot vexp vone vmaxf vmax vlogit vof vfv vrows vseg vlast vnorm vvar vdiff2 vmean2 vmean
  rfl

end Cert.ReferenceIdeal.Own

end
-- ==== Proof.ReferenceIdeal.Value.lean ====
/- The reference's parts on plain indices, and its result: the softmax-weighted sum of each segment's normalised rows. -/
module

public import proofs.«01_k».proof.Proof.ReferenceIdeal.Read
public import proofs.«01_k».proof.Proof.Words
public import Idealize.ShloMosaic.Lib.Pointwise
public import Idealize.ShloMosaic.Lib.Routing.Ops
public import Idealize.ShloMosaic.Lib.Routing.OpsPair

@[expose] public section

set_option maxRecDepth 16384

noncomputable section

namespace Cert.ReferenceIdeal.Own

open Cert.ReferenceIdeal Cert.ReferenceIdeal.Gen Idealize.ShloMosaic Idealize.ShloMosaic.TcCoe
open Cert.Maths

/-! ## Gathers and scatters -/

/-- A row gathered by a small number's word. -/
theorem rows_read (y : FVec Ideal S32768x128 .f32) (s : IVec S16 32) (b : Fin 16) (l : Fin 128) (n : Fin 32768)
    (h : s (ix1 b) = BitVec.ofNat 32 n.val) : vrows y s (ix2 b l) = y (ix2 n l) := by
  refine Routing.gather_row _ rfl rfl rfl rfl rfl y _ b l n ?_ (by norm_num)
  pointwise
  exact h
theorem of_read (y : FVec Ideal S16x128 .f32) (s : IVec S32768 32) (n : Fin 32768) (l : Fin 128) (b : Fin 16)
    (h : s (ix1 n) = BitVec.ofNat 32 b.val) : vof y s (ix2 n l) = y (ix2 b l) := by
  refine Routing.gather_row _ rfl rfl rfl rfl rfl y _ n l b ?_ (by norm_num)
  pointwise
  exact h
theorem one_read (y : FVec Ideal S16x1 .f32) (s : IVec S32768 32) (n : Fin 32768) (l : Fin 1) (b : Fin 16)
    (h : s (ix1 n) = BitVec.ofNat 32 b.val) : vone y s (ix2 n l) = y (ix2 b l) := by
  refine Routing.gather_row _ rfl rfl rfl rfl rfl y _ n l b ?_ (by norm_num)
  pointwise
  exact h

/-- Where an update of one column lands. -/
theorem lands1 (idx : IVec S32768x1 32) (n : Fin 32768) (l r : Fin 1) (b : Fin 16) :
    scatter_S16x1_S32768x1_S32768x1_1_0_0_1.resultIdx? (ix2 n l) idx = some (ix2 b r) ↔ BitVec.ofNat 32 b.val = idx (ix2 n 0) := by
  refine (Routing.resultIdx?_ix2 ..).trans ?_
  have h0 : scatter_S16x1_S32768x1_S32768x1_1_0_0_1.start (ix2 n l) idx 0 = (idx (ix2 n 0)).toInt := by
    unfold ScatterDims.start
    rw [dif_pos (by decide)]
    congr 2
    funext a
    match a with
    | ⟨0, _⟩ => rfl
    | ⟨1, _⟩ => rfl
  have h1 : scatter_S16x1_S32768x1_S32768x1_1_0_0_1.start (ix2 n l) idx 1 = 0 := rfl
  have h2 : scatter_S16x1_S32768x1_S32768x1_1_0_0_1.window (ix2 n l) 0 = 0 := rfl
  have h3 : scatter_S16x1_S32768x1_S32768x1_1_0_0_1.window (ix2 n l) 1 = l.val := rfl
  rw [h0, h1, h2, h3, ← word_signed _ b.val (by omega)]
  omega

/-- Where an update of a row lands. -/
theorem lands128 (idx : IVec S32768x1 32) (n : Fin 32768) (l r : Fin 128) (b : Fin 16) :
    scatter_S16x128_S32768x1_S32768x128_1_0_0_1.resultIdx? (ix2 n l) idx = some (ix2 b r) ↔ BitVec.ofNat 32 b.val = idx (ix2 n 0) ∧ l = r := by
  refine (Routing.resultIdx?_ix2 ..).trans ?_
  have h0 : scatter_S16x128_S32768x1_S32768x128_1_0_0_1.start (ix2 n l) idx 0 = (idx (ix2 n 0)).toInt := by
    unfold ScatterDims.start
    rw [dif_pos (by decide)]
    congr 2
    funext a
    match a with
    | ⟨0, _⟩ => rfl
    | ⟨1, _⟩ => rfl
  have h1 : scatter_S16x128_S32768x1_S32768x128_1_0_0_1.start (ix2 n l) idx 1 = 0 := rfl
  have h2 : scatter_S16x128_S32768x1_S32768x128_1_0_0_1.window (ix2 n l) 0 = 0 := rfl
  have h3 : scatter_S16x128_S32768x1_S32768x128_1_0_0_1.window (ix2 n l) 1 = l.val := rfl
  rw [h0, h1, h2, h3, ← word_signed _ b.val (by omega), Fin.ext_iff]
  omega

/-- A segment's total. -/
theorem tot_read (y : FVec Ideal S32768x1 .f32) (s : IVec S32768 32) (b : Fin 16) (l : Fin 1) :
    vtot y s (ix2 b l) = ∑ n : Fin 32768, (if BitVec.ofNat 32 b.val = s (ix1 n) then (y (ix2 n 0) : EReal) else 0) := by
  have hidx : ∀ n : Fin 32768, broadcastInDim S32768x1 ![0] bcast_S32768_S32768x1_0 s (ix2 n 0) = s (ix1 n) := fun n => by pointwise
  have hz : broadcastInDim S16x1 ![] bcast_S_S16x1 (constant (F := Ideal) S_ .f32 0x00000000#32) (ix2 b l) = (0 : EReal) := by pointwise
  have h : vtot y s (ix2 b l) = (broadcastInDim S16x1 ![] bcast_S_S16x1 (constant (F := Ideal) S_ .f32 0x00000000#32) (ix2 b l) : EReal)
      + ∑ j ∈ Finset.univ.filter (fun j => scatter_S16x1_S32768x1_S32768x1_1_0_0_1.resultIdx? j (broadcastInDim S32768x1 ![0] bcast_S32768_S32768x1_0 s) = some (ix2 b l)), (y j : EReal) := rfl
  rw [h, hz, zero_add, Finset.sum_filter, sum_idx2]
  refine Finset.sum_congr rfl fun n _ => ?_
  rw [Fin.sum_univ_one]
  refine if_congr ?_ rfl rfl
  rw [lands1, hidx]

/-- A segment's sum of rows. -/
theorem sum_at (y : FVec Ideal S32768x128 .f32) (s : IVec S32768 32) (b : Fin 16) (l : Fin 128) :
    vsum y s (ix2 b l) = ∑ n : Fin 32768, (if BitVec.ofNat 32 b.val = s (ix1 n) then (y (ix2 n l) : EReal) else 0) := by
  have hidx : ∀ n : Fin 32768, broadcastInDim S32768x1 ![0] bcast_S32768_S32768x1_0 s (ix2 n 0) = s (ix1 n) := fun n => by pointwise
  have hz : broadcastInDim S16x128 ![] bcast_S_S16x128 (constant (F := Ideal) S_ .f32 0x00000000#32) (ix2 b l) = (0 : EReal) := by pointwise
  have h : vsum y s (ix2 b l) = (broadcastInDim S16x128 ![] bcast_S_S16x128 (constant (F := Ideal) S_ .f32 0x00000000#32) (ix2 b l) : EReal)
      + ∑ j ∈ Finset.univ.filter (fun j => scatter_S16x128_S32768x1_S32768x128_1_0_0_1.resultIdx? j (broadcastInDim S32768x1 ![0] bcast_S32768_S32768x1_0 s) = some (ix2 b l)), (y j : EReal) := rfl
  rw [h, hz, zero_add, Finset.sum_filter, sum_idx2]
  refine Finset.sum_congr rfl fun n _ => ?_
  rw [Finset.sum_eq_single l]
  · refine if_congr ?_ rfl rfl
    rw [lands128, hidx]
    exact and_iff_left rfl
  · intro k _ hk
    exact if_neg fun q => hk ((lands128 _ n k l b).1 q).2
  · exact fun q => absurd (Finset.mem_univ l) q

/-! ## The arguments -/

section
variable {a : Args} (x : FVec Ideal S32768x128 .f32) (g b : FVec Ideal S128 .f32) (u w : FVec Ideal S128x128 .f32) (c : FVec Ideal S128 .f32)
  (e : FVec Ideal S128x1 .f32) (s : IVec S32768 32) (l : IVec S16 32)

/-- That the arrays hold the arguments. -/
structure Holds (a : Args) : Prop where
  hx : ∀ n d, x (ix2 n d) = (a.X n d : EReal)
  hg : ∀ d, g (ix1 d) = (a.G d : EReal)
  hb : ∀ d, b (ix1 d) = a.β d
  hu : ∀ k h, u (ix2 k h) = (a.U k h : EReal)
  hw : ∀ k h, w (ix2 k h) = a.V k h
  hc : ∀ h, c (ix1 h) = a.c h
  he : ∀ h r, e (ix2 h r) = (a.E h : EReal)
  hs : ∀ n, s (ix1 n) = a.seg n
  hl : ∀ k, l (ix1 k) = BitVec.ofNat 32 (a.last k).val

variable (H : Holds x g b u w c e s l a)
include H

/-- The mean. -/
theorem mean_at (d : Fin 128) : vmean x (ix1 d) = (a.mean d : EReal) := by
  have h : vmean x (ix1 d) = Ideal.div (∑ n : Fin 32768, (x (ix2 n d) : EReal)) (Ideal.ofBits .f32 0x47000000#32) := by
    unfold vmean
    pointwise
  rw [h, rows_word, Finset.sum_congr rfl fun n _ => H.hx n d, ← coe_sum, div_real _ _ (by norm_num)]
  rfl
theorem mean2_at (r : Fin 1) (d : Fin 128) : vmean2 x (ix2 r d) = (a.mean d : EReal) := by
  have h : vmean2 x (ix2 r d) = Ideal.div (∑ n : Fin 32768, (x (ix2 n d) : EReal)) (Ideal.ofBits .f32 0x47000000#32) := by
    unfold vmean2
    pointwise
  rw [h, rows_word, Finset.sum_congr rfl fun n _ => H.hx n d, ← coe_sum, div_real _ _ (by norm_num)]
  rfl

/-- The variance. -/
theorem var_at (d : Fin 128) : vvar (vdiff2 x (vmean2 x)) (ix1 d) = (a.var d : EReal) := by
  have h : ∀ y : FVec Ideal S32768x128 .f32, vvar y (ix1 d) = if (0 : EReal) < Ideal.ofBits .f32 0x47000000#32 - FloatOps.sitofp (F := Ideal) .f32 0#32
      then Ideal.div (∑ n : Fin 32768, (y (ix2 n d) : EReal)) (Ideal.ofBits .f32 0x47000000#32 - FloatOps.sitofp (F := Ideal) .f32 0#32 : EReal)
      else (id (constant (F := Ideal) S_ .f32 2143289344#32) ix0) := fun y => by
    unfold vvar
    pointwise
  have hz : (FloatOps.sitofp (F := Ideal) .f32 0#32 : EReal) = 0 := by
    show (((0#32 : BitVec 32).toInt : ℝ) : EReal) = 0
    have : (0#32 : BitVec 32).toInt = 0 := by decide
    rw [this]; simp
  have hd : ∀ n : Fin 32768, vdiff2 x (vmean2 x) (ix2 n d) = (((a.X n d - a.mean d) * (a.X n d - a.mean d) : ℝ) : EReal) := fun n => by
    have q : vdiff2 x (vmean2 x) (ix2 n d) = ((x (ix2 n d) - vmean2 x (ix2 0 d)) * (x (ix2 n d) - vmean2 x (ix2 0 d)) : EReal) := by
      unfold vdiff2
      pointwise
    rw [q, H.hx, mean2_at x g b u w c e s l H, ← EReal.coe_sub, ← EReal.coe_mul]
  rw [h, hz, rows_word, sub_zero, if_pos (EReal.coe_pos.2 (by norm_num)), Finset.sum_congr rfl fun n _ => hd n, ← coe_sum, div_real _ _ (by norm_num)]
  rfl

/-- The normalised rows. -/
theorem bn_at (n : Fin 32768) (d : Fin 128) : tbn x g b (ix2 n d) = a.bn n d := by
  have h : ∀ μ v : FVec Ideal S128 .f32, vnorm x μ v g b (ix2 n d)
      = Ideal.div (x (ix2 n d) - μ (ix1 d) : EReal) (Ideal.sqrt (v (ix1 d) + Ideal.ofBits .f32 0x3727C5AC#32 : EReal)) * g (ix1 d) + b (ix1 d) := fun μ v => by
    unfold vnorm
    pointwise
  unfold tbn
  rw [h, mean_at x g b u w c e s l H, var_at x g b u w c e s l H, H.hx, H.hg, H.hb, eps_word, ← EReal.coe_add, normalise _ _ _ _ (a.var_pos d)]
  rfl

/-- The last nodes' product. -/
theorem fv_at (k : Fin 16) (h : Fin 128) : tfv x g b w c l (ix2 k h) = a.fv k h := by
  have hl : vlast l (ix1 k) = BitVec.ofNat 32 (a.last k).val := by
    have q : vlast l (ix1 k) = Scalar.select (IntOp.cmpi CmpIPredicate.slt (l (ix1 k)) 0#32) (IntOp.addi (l (ix1 k)) 32768#32) (l (ix1 k)) := by
      unfold vlast
      pointwise
    rw [q, H.hl, slt_word _ (by omega)]
  have q : ∀ y : FVec Ideal S16x128 .f32, vfv y w c (ix2 k h) = (∑ i : Fin 128, (y (ix2 k i) * w (ix2 i h) : EReal) + c (ix1 h) : EReal) := fun y => by
    unfold vfv
    pointwise [dot_S16x128_S128x128_S16x128_1_0_0_1_n_n]
  unfold tfv
  rw [q, H.hc, Args.fv]
  refine congrArg (fun z : EReal => z + a.c h) (Finset.sum_congr rfl fun i _ => ?_)
  rw [rows_read _ _ k i (a.last k) hl, bn_at x g b u w c e s l H, H.hw]

/-- A member's segment word, wrapped. -/
theorem seg_at (k : Fin 16) (n : Fin 32768) (hn : a.mem k n) : vseg s (ix1 n) = BitVec.ofNat 32 k.val := by
  have q : vseg s (ix1 n) = Scalar.select (IntOp.cmpi CmpIPredicate.slt (s (ix1 n)) 0#32) (IntOp.addi (s (ix1 n)) 16#32) (s (ix1 n)) := by
    unfold vseg
    pointwise
  have hs : s (ix1 n) = BitVec.ofNat 32 k.val := (H.hs n).trans hn.symm
  rw [q, hs, slt_word _ (by omega)]

/-- A member's logit. -/
theorem logit_at (k : Fin 16) (n : Fin 32768) (hn : a.mem k n) (r : Fin 1) :
    tlogit x g b u w c e s l (ix2 n r) = (a.logit k n : EReal) := by
  have q : ∀ y z : FVec Ideal S32768x128 .f32, vlogit y z u e (ix2 n r)
      = ∑ h : Fin 128, (Ideal.logistic (∑ i : Fin 128, (y (ix2 n i) * u (ix2 i h) : EReal) + z (ix2 n h)) * e (ix2 h r) : EReal) := fun y z => by
    unfold vlogit
    pointwise [dot_S32768x128_S128x1_S32768x1_1_0_0_1_n_n, dot_S32768x128_S128x128_S32768x128_1_0_0_1_n_n]
    rfl
  unfold tlogit
  rw [q, ← Args.logit_eq]
  refine Finset.sum_congr rfl fun h _ => ?_
  rw [of_read _ _ n h k (seg_at x g b u w c e s l H k n hn), fv_at x g b u w c e s l H, H.he, mul_comm, ← Args.pre_eq]
  refine congrArg (fun z => _ * Ideal.logistic (z + _)) (Finset.sum_congr rfl fun i _ => ?_)
  rw [bn_at x g b u w c e s l H, H.hu]

/-- A segment's largest logit, zero when there is none. -/
theorem max_at (k : Fin 16) (T : ℝ) (hT : a.IsTop k T) (r : Fin 1) :
    vmaxf (vmax (tlogit x g b u w c e s l) s) (ix2 k r) = (T : EReal) := by
  have q : ∀ y : FVec Ideal S32768x1 .f32, vmax y s (ix2 k r) = Finset.fold max (Ideal.ofBits .f32 4286578688#32)
      (fun n : Fin 32768 => Scalar.select (IntOp.cmpi CmpIPredicate.eq (s (ix1 n)) (BitVec.ofNat 32 k.val)) (y (ix2 n 0) : EReal)
          (id (constant (F := Ideal) S_ .f32 4286578688#32) ix0)) Finset.univ := fun y => by
    unfold vmax
    pointwise
  have q' : ∀ y : FVec Ideal S16x1 .f32, vmaxf y (ix2 k r) = if (max (y (ix2 k r)) (-(y (ix2 k r))) : EReal) < Ideal.ofBits .f32 2139095040#32
      then (y (ix2 k r) : EReal) else (id (constant (F := Ideal) S_ .f32 0#32) ix0) := fun y => by
    unfold vmaxf
    pointwise
    rfl
  have hm : vmax (tlogit x g b u w c e s l) s (ix2 k r) = (T : EReal) := by
    rw [q, bot_word, ← top_eq (a.mem k) (a.logit k) T hT.1 hT.2, top]
    congr 1
    funext n
    rw [select_eq]
    by_cases hn : a.mem k n
    · rw [if_pos hn, if_pos ((H.hs n).trans hn.symm), logit_at x g b u w c e s l H k n hn]
    · rw [if_neg hn, if_neg fun p => hn (p.symm.trans (H.hs n))]
      exact bot_word
  rw [q', hm, top_word, if_pos]
  rw [← EReal.coe_neg]
  exact max_lt (EReal.coe_lt_top _) (EReal.coe_lt_top _)

/-- A member's exponential is its weight. -/
theorem exp_at (k : Fin 16) (T : ℝ) (hT : a.IsTop k T) (n : Fin 32768) (hn : a.mem k n) (r : Fin 1) :
    texp x g b u w c e s l (ix2 n r) = (weight (a.mem k) (a.logit k) T n : EReal) := by
  obtain rfl : r = 0 := Subsingleton.elim _ _
  have q : ∀ y z : FVec Ideal S32768x1 .f32, vexp y z (ix2 n 0) = Ideal.exp (y (ix2 n 0) - z (ix2 n 0) : EReal) := fun y z => by
    unfold vexp
    pointwise
  unfold texp
  rw [q, logit_at x g b u w c e s l H k n hn, one_read _ _ n 0 k (seg_at x g b u w c e s l H k n hn), max_at x g b u w c e s l H k T hT,
    ← part_coe, part, if_pos hn]

/-- A segment's total weight. -/
theorem tot_at (k : Fin 16) (T : ℝ) (hT : a.IsTop k T) (r : Fin 1) :
    vtot (texp x g b u w c e s l) s (ix2 k r) = ((∑ n, weight (a.mem k) (a.logit k) T n : ℝ) : EReal) := by
  rw [tot_read, coe_sum]
  refine Finset.sum_congr rfl fun n _ => ?_
  rw [H.hs]
  by_cases hn : BitVec.ofNat 32 k.val = a.seg n
  · rw [if_pos hn, exp_at x g b u w c e s l H k T hT n hn]
  · rw [if_neg hn, weight, if_neg (show ¬a.mem k n from hn), EReal.coe_zero]

/-- The reference's result for a segment without members -/
theorem res_none (k : Fin 16) (d : Fin 128) (h : ∀ n, ¬a.mem k n) : tres x g b u w c e s l (ix2 k d) = (0 : EReal) := by
  unfold tres
  rw [sum_at]
  refine Finset.sum_eq_zero fun n _ => ?_
  rw [H.hs]
  exact if_neg (h n)

/-- and for a segment with members. -/
theorem res_some (k : Fin 16) (d : Fin 128) (T : ℝ) (hT : a.IsTop k T) : tres x g b u w c e s l (ix2 k d) = a.readout k T d := by
  have q : ∀ (y : FVec Ideal S32768x128 .f32) (z t : FVec Ideal S32768x1 .f32) (n : Fin 32768),
      vweigh y z t (ix2 n d) = (y (ix2 n d) * Ideal.div (z (ix2 n 0)) (t (ix2 n 0)) : EReal) := fun y z t n => by
    unfold vweigh
    pointwise
  have hpos : (∑ n, weight (a.mem k) (a.logit k) T n) ≠ 0 := (a.total_pos k T ⟨_, hT.2.choose_spec.1⟩).ne'
  unfold tres Args.readout
  rw [sum_at]
  refine Finset.sum_congr rfl fun n _ => ?_
  rw [H.hs]
  by_cases hn : BitVec.ofNat 32 k.val = a.seg n
  · rw [if_pos hn, q, bn_at x g b u w c e s l H, exp_at x g b u w c e s l H k T hT n hn,
      one_read _ _ n 0 k (seg_at x g b u w c e s l H k n hn), tot_at x g b u w c e s l H k T hT, div_real _ _ hpos]
  · rw [if_neg hn, weight, if_neg (show ¬a.mem k n from hn), zero_div, EReal.coe_zero, mul_zero]

end

end Cert.ReferenceIdeal.Own

end
-- ==== Proof.Truth.lean ====
/- What the precondition says of the arguments: the entries it names are real numbers, and the last nodes are rows. -/
module

public import proofs.«01_k».proof.Pre_entries_finite
public import proofs.«01_k».proof.Proof.Maths
public import Idealize.ShloMosaic.Lib.ReduceAll
public import Idealize.ShloMosaic.Lib.Pointwise

@[expose] public section

noncomputable section

namespace Cert.Pre_entries_finite.Own

open Cert.Pre_entries_finite Idealize.ShloMosaic
open Cert.Maths

/-- A bit that is one. -/
theorem bit_one {p : Bool} (h : BitVec.ofBool p = 1#1) : p = true := by
  revert h; cases p <;> decide

/-- A magnitude below the top is a real number's. -/
theorem real_of_bit (x : EReal) (h : FloatOps.cmpf (F := Ideal) (φ := .f32) .olt (FloatOps.absf (F := Ideal) (φ := .f32) x) (Ideal.ofBits .f32 0x7F800000#32) = 1#1) :
    ((x.toReal : ℝ) : EReal) = x := by
  have h' : (max x (-x) : EReal) < ⊤ := by
    rw [← top_word]
    exact of_decide_eq_true (bit_one h)
  refine EReal.coe_toReal (fun e => ?_) (fun e => ?_)
  · subst e; simp at h'
  · subst e; simp at h'

/-- A word within the rows is a row's. -/
theorem row_of_bits (x : BitVec 32) (h0 : IntOp.cmpi .sge x 0#32 = 1#1) (h1 : IntOp.cmpi .slt x 32768#32 = 1#1) :
    ∃ n : Fin 32768, x = BitVec.ofNat 32 n.val := by
  have a0 := IntOp.cmpi_sge.1 h0
  have a1 := IntOp.cmpi_slt.1 h1
  have z0 : (0#32 : BitVec 32).toInt = 0 := by decide
  have z1 : (32768#32 : BitVec 32).toInt = 32768 := by decide
  rw [z0] at a0
  rw [z1] at a1
  have hx : x.toInt = (x.toNat : Int) := by
    rw [BitVec.toInt_eq_toNat_cond] at a0 ⊢
    split
    · rfl
    · next q => rw [if_neg q] at a0; have := x.isLt; omega
  refine ⟨⟨x.toNat, by omega⟩, ?_⟩
  exact BitVec.eq_of_toNat_eq (by rw [BitVec.toNat_ofNat]; exact (Nat.mod_eq_of_lt x.isLt).symm)

variable [Facts]

/-- There is one index of no axes. -/
instance : Subsingleton S_.Idx := ⟨fun a b => funext fun d => Fin.elim0 d⟩

/-- What the precondition says. -/
theorem truth (x0 : FVec Ideal S32768x128 .f32) (x1 x2 : FVec Ideal S128 .f32) (x3 x4 : FVec Ideal S128x128 .f32) (x5 : FVec Ideal S128 .f32)
    (x6 : FVec Ideal S128x1 .f32) (x7 : IVec S32768 32) (x8 : IVec S16 32)
    (h : fn (F := Ideal) x0 x1 x2 x3 x4 x5 x6 x7 x8 = fun _ => 1#1) :
    (∀ i, (((x0 i : EReal).toReal : ℝ) : EReal) = x0 i) ∧ (∀ i, (((x1 i : EReal).toReal : ℝ) : EReal) = x1 i)
    ∧ (∀ i, (((x3 i : EReal).toReal : ℝ) : EReal) = x3 i) ∧ (∀ i, (((x6 i : EReal).toReal : ℝ) : EReal) = x6 i)
    ∧ ∀ i, ∃ n : Fin 32768, x8 i = BitVec.ofNat 32 n.val := by
  have h0 := congrFun h (fun d => Fin.elim0 d)
  obtain ⟨h1, h8⟩ := IntOp.andi_eq_one.1 h0
  obtain ⟨h2, h6⟩ := IntOp.andi_eq_one.1 h1
  obtain ⟨h3, h3'⟩ := IntOp.andi_eq_one.1 h2
  obtain ⟨h4, h4'⟩ := IntOp.andi_eq_one.1 h3
  refine ⟨fun i => real_of_bit _ (Host.reduce_andi_all _ _ _ _ _ h4 i), fun i => real_of_bit _ (Host.reduce_andi_all _ _ _ _ _ h4' i),
    fun i => real_of_bit _ (Host.reduce_andi_all _ _ _ _ _ h3' i), fun i => real_of_bit _ (Host.reduce_andi_all _ _ _ _ _ h6 i), fun i => ?_⟩
  obtain ⟨q0, q1⟩ := IntOp.andi_eq_one.1 (Host.reduce_andi_all _ _ _ _ _ h8 i)
  exact row_of_bits _ q0 q1

end Cert.Pre_entries_finite.Own

end
-- ==== Proof.Equal.lean ====
/- The kernel's result and the reference's are the same function of the arguments. -/
module

public import proofs.«01_k».proof.Proof.KernelIdeal.Value
public import proofs.«01_k».proof.Proof.KernelIdeal.Final
public import proofs.«01_k».proof.Proof.ReferenceIdeal.Value
public import proofs.«01_k».proof.Proof.Truth

@[expose] public section

set_option maxRecDepth 16384

noncomputable section

namespace Cert.Equal

open Idealize.ShloMosaic Idealize.ShloMosaic.TcCoe
open Cert.Maths
open Cert.KernelIdeal Cert.KernelIdeal.Gen Cert.KernelIdeal.Own

variable (m : (ℓ : Loc nD τ sig) → Buf (Elt Ideal) ℓ) (c : Dev nD)

/-- The kernel's arguments: the features, -/
abbrev k0 : FVec Ideal Cert.KernelIdeal.S32768x128 .f32 := m ((c.tc : Thread nD τ).loc Cert.KernelIdeal.main_arg0)
/-- the scale, -/
abbrev k1 : FVec Ideal Cert.KernelIdeal.S128 .f32 := m ((c.tc : Thread nD τ).loc Cert.KernelIdeal.main_arg1)
/-- the offset, -/
abbrev k2 : FVec Ideal Cert.KernelIdeal.S128 .f32 := m ((c.tc : Thread nD τ).loc Cert.KernelIdeal.main_arg2)
/-- the first weights, -/
abbrev k3 : FVec Ideal Cert.KernelIdeal.S128x128 .f32 := m ((c.tc : Thread nD τ).loc Cert.KernelIdeal.main_arg3)
/-- the second, -/
abbrev k4 : FVec Ideal Cert.KernelIdeal.S128x128 .f32 := m ((c.tc : Thread nD τ).loc Cert.KernelIdeal.main_arg4)
/-- their bias, -/
abbrev k5 : FVec Ideal Cert.KernelIdeal.S128 .f32 := m ((c.tc : Thread nD τ).loc Cert.KernelIdeal.main_arg5)
/-- the last weights, -/
abbrev k6 : FVec Ideal Cert.KernelIdeal.S128x1 .f32 := m ((c.tc : Thread nD τ).loc Cert.KernelIdeal.main_arg6)
/-- the segments -/
abbrev k7 : IVec Cert.KernelIdeal.S32768 32 := m ((c.tc : Thread nD τ).loc Cert.KernelIdeal.main_arg7)
/-- and the last nodes. -/
abbrev k8 : IVec Cert.KernelIdeal.S16 32 := m ((c.tc : Thread nD τ).loc Cert.KernelIdeal.main_arg8)

/-- What the precondition gives. -/
structure Good : Prop where
  h0 : ∀ i, (((k0 m c i : EReal).toReal : ℝ) : EReal) = k0 m c i
  h1 : ∀ i, (((k1 m c i : EReal).toReal : ℝ) : EReal) = k1 m c i
  h3 : ∀ i, (((k3 m c i : EReal).toReal : ℝ) : EReal) = k3 m c i
  h6 : ∀ i, (((k6 m c i : EReal).toReal : ℝ) : EReal) = k6 m c i
  h8 : ∀ i, ∃ n : Fin 32768, k8 m c i = BitVec.ofNat 32 n.val

variable {m c} (H : Good m c)

/-- The arguments on plain indices. -/
def args : Args where
  X n d := (k0 m c (ix2 n d) : EReal).toReal
  G d := (k1 m c (ix1 d) : EReal).toReal
  U k h := (k3 m c (ix2 k h) : EReal).toReal
  E h := (k6 m c (ix2 h 0) : EReal).toReal
  β d := k2 m c (ix1 d)
  V k h := k4 m c (ix2 k h)
  c h := k5 m c (ix1 h)
  seg n := k7 m c (ix1 n)
  last b := (H.h8 (ix1 b)).choose

/-- The blocks the four points read. -/
def blocks : Blocks (args H) where
  i0 := grid0.coords t0_0
  i1 := grid0.coords t0_1
  x0 := iblk m c 2 t0_0
  x1 := iblk m c 2 t0_1
  s0 := iblk m c 0 t0_2
  s1 := iblk m c 0 t0_3
  ln0 := iblk m c 1 t0_0
  ln1 := iblk m c 1 t0_1
  g := iblk m c 3 t0_2
  bt := iblk m c 4 t0_2
  wu := iblk m c 5 t0_2
  wv := iblk m c 6 t0_2
  bv := iblk m c 7 t0_2
  we0 := iblk m c 8 t0_2
  we1 := iblk m c 8 t0_3
  hi0 := by decide +kernel
  hi1 := by decide +kernel
  hx0 r l := (rows_at0 m c r l).trans (H.h0 _).symm
  hx1 r l := (rows_at1 m c r l).trans (H.h0 _).symm
  hs0 r := segs_at2 m c r
  hs1 r := segs_at3 m c r
  hln0 b := (last_at m c t0_0 0 b).trans (H.h8 (ix1 b)).choose_spec
  hln1 b := (last_at m c t0_1 0 b).trans (H.h8 (ix1 b)).choose_spec
  hg r l := (gamma_at m c t0_2 r l).trans (H.h1 _).symm
  hbt r l := beta_at m c t0_2 r l
  hwu k l := ((block5 m c t0_2 k l).trans (congrFun (V_main_arg3 m c) _)).trans (H.h3 _).symm
  hwv k l := (block6 m c t0_2 k l).trans (congrFun (V_main_arg4 m c) _)
  hbv r l := bias_at m c t0_2 r l
  hwe0 r l := (we_at m c t0_2 r l).trans (H.h6 _).symm
  hwe1 r l := (we_at m c t0_3 r l).trans (H.h6 _).symm

/-- The second phase reads the first block again -/
theorem again0 : (iblk m c 2 t0_2 : Vec Ideal Cert.KernelIdeal.S16384x128 .f32) = iblk m c 2 t0_0 := funext fun i => by
  rw [eq_ix2 i]
  exact (rows_at2 m c _ _).trans (rows_at0 m c _ _).symm

/-- and the second. -/
theorem again1 : (iblk m c 2 t0_3 : Vec Ideal Cert.KernelIdeal.S16384x128 .f32) = iblk m c 2 t0_1 := funext fun i => by
  rw [eq_ix2 i]
  exact (rows_at3 m c _ _).trans (rows_at1 m c _ _).symm

/-- The kernel's result is the four points' readout. -/
theorem result_blocks : result m c = readout (blocks H).nm (blocks H).st4 := by
  have e3 : after3 m c = (blocks H).st3 := by
    unfold after3
    rw [again0]
    rfl
  have e4 : after4 m c = (blocks H).st4 := by
    unfold after4
    rw [again1, e3]
    rfl
  unfold result
  rw [e4]
  rfl

/-- The reference's arrays hold the same arguments. -/
theorem holds : Cert.ReferenceIdeal.Own.Holds (k0 m c) (k1 m c) (k2 m c) (k3 m c) (k4 m c) (k5 m c) (k6 m c) (k7 m c) (k8 m c) (args H) where
  hx n d := (H.h0 _).symm
  hg d := (H.h1 _).symm
  hb d := rfl
  hu k h := (H.h3 _).symm
  hw k h := rfl
  hc h := rfl
  he h r := by
    obtain rfl : r = 0 := Subsingleton.elim _ _
    exact (H.h6 _).symm
  hs n := rfl
  hl k := (H.h8 (ix1 k)).choose_spec

include H in
/-- Both results are the same array. -/
theorem result_eq : result m c
    = Cert.ReferenceIdeal.Own.tres (k0 m c) (k1 m c) (k2 m c) (k3 m c) (k4 m c) (k5 m c) (k6 m c) (k7 m c) (k8 m c) := funext fun i => by
  rw [eq_ix2 i, result_blocks H]
  rcases (blocks H).readout_eq (i 0) (i 1) with ⟨hn, h⟩ | ⟨T, hT, h⟩
  · exact h.trans (Cert.ReferenceIdeal.Own.res_none _ _ _ _ _ _ _ _ _ (holds H) (i 0) (i 1) hn).symm
  · exact h.trans (Cert.ReferenceIdeal.Own.res_some _ _ _ _ _ _ _ _ _ (holds H) (i 0) (i 1) T hT).symm

end Cert.Equal

end
-- ==== Proof.lean ====
/- The proof of everything this directory claims. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_entries_finite
public import proofs.«01_k».proof.Proof.Kernel.Launch
public import proofs.«01_k».proof.Proof.KernelIdeal.Launch
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs to the end and leaves its arguments as they were; it declares no semaphore. -/
theorem frame_r : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel and the reference, started on the same arguments that meet the precondition, end with the same result. -/
theorem same : Cert.algebraic_KernelIdeal_ReferenceIdeal_pre_entries_finite := fun m ρ m' ρ' hp hargs => by
  have good : ∀ c, Cert.Equal.Good m c := fun c => by
    obtain ⟨h0, h1, h3, h6, h8⟩ := Cert.Pre_entries_finite.Own.truth _ _ _ _ _ _ _ _ _ (hp c)
    exact ⟨h0, h1, h3, h6, h8⟩
  refine ⟨fun c => Cert.KernelIdeal.Own.result m c, Cert.KernelIdeal.Own.run m ρ, ?_⟩
  refine (θ_run Cert.ReferenceIdeal.defs _ _).mono (fun r h c => ⟨?_, (h c).2⟩) (Cert.ReferenceIdeal.Value.run (F := Ideal) m' ρ')
  obtain ⟨a0, a1, a2, a3, a4, a5, a6, a7, a8⟩ := hargs c
  refine (h c).1.trans ((Cert.ReferenceIdeal.Own.res_eq m' c).trans ?_)
  rw [a0, a1, a2, a3, a4, a5, a6, a7, a8]
  exact (Cert.Equal.result_eq (good c)).symm

/-- The claims: the three programs run to the end and leave their arguments as they were; the kernel's result is the
    reference's. -/
theorem claim : Cert.Claim := ⟨Cert.Kernel.Gen.facts, Cert.KernelIdeal.Gen.facts, Cert.ReferenceIdeal.Gen.facts,
  Cert.Pre_entries_finite.Gen.facts,
  fun m ρ _ => Cert.Kernel.Own.frame m ρ, fun m ρ _ => Cert.KernelIdeal.Own.frame m ρ, fun m ρ _ => Cert.KernelIdeal.Own.frame m ρ,
  frame_r, fun m ρ _ => frame_r m ρ trivial, trivial, same⟩

end Cert.Proof

end
